-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S1024x200 : Shape := ⟨2, ![1024, 200]⟩
abbrev S100000x100 : Shape := ⟨2, ![100000, 100]⟩
abbrev S100000 : Shape := ⟨1, ![100000]⟩
abbrev S5x100 : Shape := ⟨2, ![5, 100]⟩
abbrev S5 : Shape := ⟨1, ![5]⟩
abbrev S100x5 : Shape := ⟨2, ![100, 5]⟩
abbrev S100 : Shape := ⟨1, ![100]⟩
abbrev S_ : Shape := ⟨0, ![]⟩

class Facts : Prop where
  bcast_S_S1024x200 : S_.BroadcastsInDim S1024x200 (![] : Fin 0 → Fin S1024x200.rank)

variable [Facts]

def fn {F : FTy → Type} [FloatOps F] (main_arg0 : IVec S1024x200 32) (main_arg1 : FVec F S100000x100 .f32) (main_arg2 : FVec F S100000 .f32) (main_arg3 : FVec F S5x100 .f32) (main_arg4 : FVec F S5 .f32) (main_arg5 : FVec F S100x5 .f32) (main_arg6 : FVec F S100 .f32) : IVec S1024x200 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  main_v4
-- ==== Kernel.lean ====
abbrev S1024x200 : Shape := ⟨2, ![1024, 200]⟩
abbrev S100000x100 : Shape := ⟨2, ![100000, 100]⟩
abbrev S100000 : Shape := ⟨1, ![100000]⟩
abbrev S5x100 : Shape := ⟨2, ![5, 100]⟩
abbrev S5 : Shape := ⟨1, ![5]⟩
abbrev S100x5 : Shape := ⟨2, ![100, 5]⟩
abbrev S100 : Shape := ⟨1, ![100]⟩
abbrev S100000x1 : Shape := ⟨2, ![100000, 1]⟩
abbrev S_ : Shape := ⟨0, ![]⟩
abbrev S100000x27 : Shape := ⟨2, ![100000, 27]⟩
abbrev S100000x128 : Shape := ⟨2, ![100000, 128]⟩
abbrev S204800 : Shape := ⟨1, ![204800]⟩
abbrev S204800x128 : Shape := ⟨2, ![204800, 128]⟩
abbrev S6400 : Shape := ⟨1, ![6400]⟩
abbrev S128x128 : Shape := ⟨2, ![128, 128]⟩
abbrev S128 : Shape := ⟨1, ![128]⟩
abbrev S204800x1 : Shape := ⟨2, ![204800, 1]⟩
abbrev S8x200 : Shape := ⟨2, ![8, 200]⟩
abbrev S1600x1 : Shape := ⟨2, ![1600, 1]⟩
abbrev S8x200x1 : Shape := ⟨3, ![8, 200, 1]⟩
abbrev S8x1x200 : Shape := ⟨3, ![8, 1, 200]⟩
abbrev S8x200x200 : Shape := ⟨3, ![8, 200, 200]⟩
abbrev S1x5 : Shape := ⟨2, ![1, 5]⟩
abbrev S1x100 : Shape := ⟨2, ![1, 100]⟩
abbrev S1024x100 : Shape := ⟨2, ![1024, 100]⟩
abbrev S6400x128 : Shape := ⟨2, ![6400, 128]⟩
abbrev S6400x1 : Shape := ⟨2, ![6400, 1]⟩
abbrev S32x100 : Shape := ⟨2, ![32, 100]⟩
abbrev S32x200x1 : Shape := ⟨3, ![32, 200, 1]⟩
abbrev S32x1 : Shape := ⟨2, ![32, 1]⟩
abbrev S32x1x1 : Shape := ⟨3, ![32, 1, 1]⟩
abbrev S32x200x128 : Shape := ⟨3, ![32, 200, 128]⟩
abbrev S32x128 : Shape := ⟨2, ![32, 128]⟩
abbrev S32x5 : Shape := ⟨2, ![32, 5]⟩

abbrev nBuf : Table → Nat
  | .hbm => 17
  | .local .tc .vmem => 14
  | .local .scVector .vmem => 6
  | _ => 0

abbrev bufTy : (tb : Table) → Fin (nBuf tb) → BufTy
  | .hbm, ⟨0, _⟩ => ⟨S1024x200, .i32⟩
  | .hbm, ⟨1, _⟩ => ⟨S100000x100, .f32⟩
  | .hbm, ⟨2, _⟩ => ⟨S100000, .f32⟩
  | .hbm, ⟨3, _⟩ => ⟨S5x100, .f32⟩
  | .hbm, ⟨4, _⟩ => ⟨S5, .f32⟩
  | .hbm, ⟨5, _⟩ => ⟨S100x5, .f32⟩
  | .hbm, ⟨6, _⟩ => ⟨S100, .f32⟩
  | .hbm, ⟨7, _⟩ => ⟨S100000x1, .f32⟩
  | .hbm, ⟨8, _⟩ => ⟨S_, .f32⟩
  | .hbm, ⟨9, _⟩ => ⟨S100000x27, .f32⟩
  | .hbm, ⟨10, _⟩ => ⟨S100000x128, .f32⟩
  | .hbm, ⟨11, _⟩ => ⟨S204800, .i32⟩
  | .hbm, ⟨12, _⟩ => ⟨S204800x128, .f32⟩
  | .hbm, ⟨13, _⟩ => ⟨S204800x1, .f32⟩
  | .hbm, ⟨14, _⟩ => ⟨S1x5, .f32⟩
  | .hbm, ⟨15, _⟩ => ⟨S1x100, .f32⟩
  | .hbm, ⟨16, _⟩ => ⟨S1024x100, .f32⟩
  | .local .tc .vmem, ⟨0, _⟩ => ⟨S8x200, .i32⟩
  | .local .tc .vmem, ⟨1, _⟩ => ⟨S8x200, .i32⟩
  | .local .tc .vmem, ⟨2, _⟩ => ⟨S1600x1, .f32⟩
  | .local .tc .vmem, ⟨3, _⟩ => ⟨S1600x1, .f32⟩
  | .local .tc .vmem, ⟨4, _⟩ => ⟨S6400x128, .f32⟩
  | .local .tc .vmem, ⟨5, _⟩ => ⟨S6400x128, .f32⟩
  | .local .tc .vmem, ⟨6, _⟩ => ⟨S6400x1, .f32⟩
  | .local .tc .vmem, ⟨7, _⟩ => ⟨S6400x1, .f32⟩
  | .local .tc .vmem, ⟨8, _⟩ => ⟨S5x100, .f32⟩
  | .local .tc .vmem, ⟨9, _⟩ => ⟨S1x5, .f32⟩
  | .local .tc .vmem, ⟨10, _⟩ => ⟨S100x5, .f32⟩
  | .local .tc .vmem, ⟨11, _⟩ => ⟨S1x100, .f32⟩
  | .local .tc .vmem, ⟨12, _⟩ => ⟨S32x100, .f32⟩
  | .local .tc .vmem, ⟨13, _⟩ => ⟨S32x100, .f32⟩
  | .local .scVector .vmem, ⟨0, _⟩ => ⟨S6400, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v2_scv : Ref sig .scVector := ⟨.hbm, 10, rfl⟩
abbrev main_v3_scv : Ref sig .scVector := ⟨.hbm, 11, rfl⟩
abbrev main_v4_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_stg6_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 11
abbrev cc1_sem0_1 : DmaSem sig := 12
abbrev cc1_sem1_0 : DmaSem sig := 13
abbrev cc1_sem1_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32 : BitVec 32 := 0#32
  let c10_i32 : BitVec 32 := 10#32
  let v3 : BitVec 32 := Scalar.addi c0_i32 c10_i32
  let c1_i32 : BitVec 32 := 1#32
  ⟨c0_i32, v3, c1_i32⟩
def k0_mult1 (k0_t1 : Fin k0_t1_loop.trips) : BitVec 32 :=
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c0_i32_3 : BitVec 32 := 0#32
  let v7 : BitVec 32 := Scalar.addi v6 c0_i32_3
  let c128_i32 : BitVec 32 := 128#32
  let v8 : BitVec 32 := Scalar.muli v7 c128_i32
  v8
def k0_off2 (k0_t1 : Fin k0_t1_loop.trips) (c0_i32_3 : BitVec 32) : Fin 1 → Nat :=
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let v7 : BitVec 32 := Scalar.addi v6 c0_i32_3
  let c128_i32 : BitVec 32 := 128#32
  let v8 : BitVec 32 := Scalar.muli v7 c128_i32
  let v9 : BitVec 32 := v8
  ![v9.toNat]
def k0_mult2 (k0_t1 : Fin k0_t1_loop.trips) : BitVec 32 :=
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c1_i32_6 : BitVec 32 := 1#32
  let v12 : BitVec 32 := Scalar.addi v6 c1_i32_6
  let c128_i32_7 : BitVec 32 := 128#32
  let v13 : BitVec 32 := Scalar.muli v12 c128_i32_7
  v13
def k0_mult3 (k0_t1 : Fin k0_t1_loop.trips) : BitVec 32 :=
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c2_i32_10 : BitVec 32 := 2#32
  let v17 : BitVec 32 := Scalar.addi v6 c2_i32_10
  let c128_i32_11 : BitVec 32 := 128#32
  let v18 : BitVec 32 := Scalar.muli v17 c128_i32_11
  v18
def k0_mult4 (k0_t1 : Fin k0_t1_loop.trips) : BitVec 32 :=
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c3_i32 : BitVec 32 := 3#32
  let v22 : BitVec 32 := Scalar.addi v6 c3_i32
  let c128_i32_14 : BitVec 32 := 128#32
  let v23 : BitVec 32 := Scalar.muli v22 c128_i32_14
  v23
def k0_mult5 (k0_t1 : Fin k0_t1_loop.trips) : BitVec 32 :=
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c4_i32 : BitVec 32 := 4#32
  let v27 : BitVec 32 := Scalar.addi v6 c4_i32
  let c128_i32_17 : BitVec 32 := 128#32
  let v28 : BitVec 32 := Scalar.muli v27 c128_i32_17
  v28
def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c0_i32_22 : BitVec 32 := 0#32
  let v34 : BitVec 32 := Scalar.addi v6 c0_i32_22
  let c128_i32_23 : BitVec 32 := 128#32
  let v35 : BitVec 32 := Scalar.muli v34 c128_i32_23
  let v36 : BitVec 32 := Scalar.addi v2 v35
  v36
def k0_off3 (i : grid0.Coords) (k0_t1 : Fin k0_t1_loop.trips) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let v34 : BitVec 32 := Scalar.addi v6 c0_i32_22
  let c128_i32_23 : BitVec 32 := 128#32
  let v35 : BitVec 32 := Scalar.muli v34 c128_i32_23
  let v36 : BitVec 32 := Scalar.addi v2 v35
  let v37 : BitVec 32 := v36
  let c0_i32_24 : BitVec 32 := 0#32
  ![v37.toNat, 0]
def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c1_i32_28 : BitVec 32 := 1#32
  let v42 : BitVec 32 := Scalar.addi v6 c1_i32_28
  let c128_i32_29 : BitVec 32 := 128#32
  let v43 : BitVec 32 := Scalar.muli v42 c128_i32_29
  let v44 : BitVec 32 := Scalar.addi v2 v43
  v44
def k0_mult8 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c2_i32_34 : BitVec 32 := 2#32
  let v50 : BitVec 32 := Scalar.addi v6 c2_i32_34
  let c128_i32_35 : BitVec 32 := 128#32
  let v51 : BitVec 32 := Scalar.muli v50 c128_i32_35
  let v52 : BitVec 32 := Scalar.addi v2 v51
  v52
def k0_mult9 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c3_i32_40 : BitVec 32 := 3#32
  let v58 : BitVec 32 := Scalar.addi v6 c3_i32_40
  let c128_i32_41 : BitVec 32 := 128#32
  let v59 : BitVec 32 := Scalar.muli v58 c128_i32_41
  let v60 : BitVec 32 := Scalar.addi v2 v59
  v60
def k0_mult10 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_2 : BitVec 32 := 0#32
  let c0_i32 : BitVec 32 := 0#32
  let c1_i32 : BitVec 32 := 1#32
  let arg21 : BitVec 32 := Scf.iv c0_i32 c1_i32 k0_t1
  let c1_i32_1 : BitVec 32 := 1#32
  let v4 : BitVec 32 := Scalar.muli arg21 c1_i32_1
  let v5 : BitVec 32 := Scalar.addi c0_i32_2 v4
  let c5_i32 : BitVec 32 := 5#32
  let v6 : BitVec 32 := Scalar.muli v5 c5_i32
  let c4_i32_46 : BitVec 32 := 4#32
  let v66 : BitVec 32 := Scalar.addi v6 c4_i32_46
  let c128_i32_47 : BitVec 32 := 128#32
  let v67 : BitVec 32 := Scalar.muli v66 c128_i32_47
  let v68 : BitVec 32 := Scalar.addi v2 v67
  v68
abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x5 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S100x5 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S32x100 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x100 : Shape := ⟨2, ![100000, 100]⟩
abbrev S100000 : Shape := ⟨1, ![100000]⟩
abbrev S5x100 : Shape := ⟨2, ![5, 100]⟩
abbrev S5 : Shape := ⟨1, ![5]⟩
abbrev S100x5 : Shape := ⟨2, ![100, 5]⟩
abbrev S100 : Shape := ⟨1, ![100]⟩
abbrev S_ : Shape := ⟨0, ![]⟩
abbrev S1024x100000 : Shape := ⟨2, ![1024, 100000]⟩
abbrev S1024 : Shape := ⟨1, ![1024]⟩
abbrev S1024x1 : Shape := ⟨2, ![1024, 1]⟩
abbrev S1024x200x1 : Shape := ⟨3, ![1024, 200, 1]⟩
abbrev S1024x200x2 : Shape := ⟨3, ![1024, 200, 2]⟩
abbrev S1x100000 : Shape := ⟨2, ![1, 100000]⟩
abbrev S1 : Shape := ⟨1, ![1]⟩
abbrev S1x1x1 : Shape := ⟨3, ![1, 1, 1]⟩
abbrev S1024x200x100 : Shape := ⟨3, ![1024, 200, 100]⟩
abbrev S1024x100 : Shape := ⟨2, ![1024, 100]⟩
abbrev S1024x5 : Shape := ⟨2, ![1024, 5]⟩
abbrev S1x5 : Shape := ⟨2, ![1, 5]⟩
abbrev S1x100 : Shape := ⟨2, ![1, 100]⟩

abbrev nBuf : Space → Nat
  | .hbm => 100
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x100, .f32⟩
  | .hbm, ⟨2, _⟩ => ⟨S100000, .f32⟩
  | .hbm, ⟨3, _⟩ => ⟨S5x100, .f32⟩
  | .hbm, ⟨4, _⟩ => ⟨S5, .f32⟩
  | .hbm, ⟨5, _⟩ => ⟨S100x5, .f32⟩
  | .hbm, ⟨6, _⟩ => ⟨S100, .f32⟩
  | .hbm, ⟨7, _⟩ => ⟨S_, .f32⟩
  | .hbm, ⟨8, _⟩ => ⟨S1024x100000, .f32⟩
  | .hbm, ⟨9, _⟩ => ⟨S1024, .i32⟩
  | .hbm, ⟨10, _⟩ => ⟨S1024x1, .i32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S_, .i32⟩
  | .hbm, ⟨15, _⟩ => ⟨S1024x1, .i32⟩
  | .hbm, ⟨16, _⟩ => ⟨S1024x1, .i32⟩
  | .hbm, ⟨17, _⟩ => ⟨S1024x1, .i32⟩
  | .hbm, ⟨18, _⟩ => ⟨S_, .i32⟩
  | .hbm, ⟨19, _⟩ => ⟨S1024x200, .i32⟩
  | .hbm, ⟨20, _⟩ => ⟨S1024x200, .i1⟩
  | .hbm, ⟨21, _⟩ => ⟨S_, .i32⟩
  | .hbm, ⟨22, _⟩ => ⟨S1024x200, .i32⟩
  | .hbm, ⟨23, _⟩ => ⟨S1024x200, .i32⟩
  | .hbm, ⟨24, _⟩ => ⟨S1024x200, .i32⟩
  | .hbm, ⟨25, _⟩ => ⟨S1024x200, .i32⟩
  | .hbm, ⟨26, _⟩ => ⟨S1024x200x1, .i32⟩
  | .hbm, ⟨27, _⟩ => ⟨S1024x200x1, .i32⟩
  | .hbm, ⟨28, _⟩ => ⟨S1024x200x2, .i32⟩
  | .hbm, ⟨29, _⟩ => ⟨S_, .f32⟩
  | .hbm, ⟨30, _⟩ => ⟨S1024x200, .f32⟩
  | .hbm, ⟨31, _⟩ => ⟨S1024x100000, .f32⟩
  | .hbm, ⟨32, _⟩ => ⟨S1x100000, .f32⟩
  | .hbm, ⟨33, _⟩ => ⟨S1024x100000, .f32⟩
  | .hbm, ⟨34, _⟩ => ⟨S1024x100000, .f32⟩
  | .hbm, ⟨35, _⟩ => ⟨S_, .f32⟩
  | .hbm, ⟨36, _⟩ => ⟨S1024, .f32⟩
  | .hbm, ⟨37, _⟩ => ⟨S1024x1, .f32⟩
  | .hbm, ⟨38, _⟩ => ⟨S1024x100000, .f32⟩
  | .hbm, ⟨39, _⟩ => ⟨S1024x100000, .f32⟩
  | .hbm, ⟨40, _⟩ => ⟨S_, .i32⟩
  | .hbm, ⟨41, _⟩ => ⟨S1024x200, .i32⟩
  | .hbm, ⟨42, _⟩ => ⟨S1024x200, .i1⟩
  | .hbm, ⟨43, _⟩ => ⟨S_, .i32⟩
  | .hbm, ⟨44, _⟩ => ⟨S1024x200, .i32⟩
  | .hbm, ⟨45, _⟩ => ⟨S1024x200, .i32⟩
  | .hbm, ⟨46, _⟩ => ⟨S1024x200, .i32⟩
  | .hbm, ⟨47, _⟩ => ⟨S1024x200x1, .i32⟩
  | .hbm, ⟨48, _⟩ => ⟨S1, .i32⟩
  | .hbm, ⟨49, _⟩ => ⟨S_, .i32⟩
  | .hbm, ⟨50, _⟩ => ⟨S1024x200x1, .i32⟩
  | .hbm, ⟨51, _⟩ => ⟨S1024x200x1, .i1⟩
  | .hbm, ⟨52, _⟩ => ⟨S1x1x1, .i32⟩
  | .hbm, ⟨53, _⟩ => ⟨S1024x200x1, .i32⟩
  | .hbm, ⟨54, _⟩ => ⟨S1024x200x1, .i1⟩
  | .hbm, ⟨55, _⟩ => ⟨S1024x200x1, .i1⟩
  | .hbm, ⟨56, _⟩ => ⟨S_, .i1⟩
  | .hbm, ⟨57, _⟩ => ⟨S1024x200, .i1⟩
  | .hbm, ⟨58, _⟩ => ⟨S1024x200, .f32⟩
  | .hbm, ⟨59, _⟩ => ⟨S_, .f32⟩
  | .hbm, ⟨60, _⟩ => ⟨S1024x200, .f32⟩
  | .hbm, ⟨61, _⟩ => ⟨S1024x200, .f32⟩
  | .hbm, ⟨62, _⟩ => ⟨S_, .i32⟩
  | .hbm, ⟨63, _⟩ => ⟨S1024x200, .i32⟩
  | .hbm, ⟨64, _⟩ => ⟨S1024x200, .i1⟩
  | .hbm, ⟨65, _⟩ => ⟨S_, .i32⟩
  | .hbm, ⟨66, _⟩ => ⟨S1024x200, .i32⟩
  | .hbm, ⟨67, _⟩ => ⟨S1024x200, .i32⟩
  | .hbm, ⟨68, _⟩ => ⟨S1024x200, .i32⟩
  | .hbm, ⟨69, _⟩ => ⟨S1024x200x1, .i32⟩
  | .hbm, ⟨70, _⟩ => ⟨S1, .i32⟩
  | .hbm, ⟨71, _⟩ => ⟨S_, .i32⟩
  | .hbm, ⟨72, _⟩ => ⟨S1024x200x1, .i32⟩
  | .hbm, ⟨73, _⟩ => ⟨S1024x200x1, .i1⟩
  | .hbm, ⟨74, _⟩ => ⟨S1x1x1, .i32⟩
  | .hbm, ⟨75, _⟩ => ⟨S1024x200x1, .i32⟩
  | .hbm, ⟨76, _⟩ => ⟨S1024x200x1, .i1⟩
  | .hbm, ⟨77, _⟩ => ⟨S1024x200x1, .i1⟩
  | .hbm, ⟨78, _⟩ => ⟨S_, .i1⟩
  | .hbm, ⟨79, _⟩ => ⟨S1024x200, .i1⟩
  | .hbm, ⟨80, _⟩ => ⟨S1024x200x100, .f32⟩
  | .hbm, ⟨81, _⟩ => ⟨S1024x200x100, .i1⟩
  | .hbm, ⟨82, _⟩ => ⟨S_, .f32⟩
  | .hbm, ⟨83, _⟩ => ⟨S1024x200x100, .f32⟩
  | .hbm, ⟨84, _⟩ => ⟨S1024x200x100, .f32⟩
  | .hbm, ⟨85, _⟩ => ⟨S1024x200x1, .f32⟩
  | .hbm, ⟨86, _⟩ => ⟨S1024x200x100, .f32⟩
  | .hbm, ⟨87, _⟩ => ⟨S1024x200x100, .f32⟩
  | .hbm, ⟨88, _⟩ => ⟨S_, .f32⟩
  | .hbm, ⟨89, _⟩ => ⟨S1024x100, .f32⟩
  | .hbm, ⟨90, _⟩ => ⟨S100x5, .f32⟩
  | .hbm, ⟨91, _⟩ => ⟨S1024x5, .f32⟩
  | .hbm, ⟨92, _⟩ => ⟨S1x5, .f32⟩
  | .hbm, ⟨93, _⟩ => ⟨S1024x5, .f32⟩
  | .hbm, ⟨94, _⟩ => ⟨S1024x5, .f32⟩
  | .hbm, ⟨95, _⟩ => ⟨S5x100, .f32⟩
  | .hbm, ⟨96, _⟩ => ⟨S1024x100, .f32⟩
  | .hbm, ⟨97, _⟩ => ⟨S1x100, .f32⟩
  | .hbm, ⟨98, _⟩ => ⟨S1024x100, .f32⟩
  | .hbm, ⟨99, _⟩ => ⟨S1024x100, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_c : Ref sig .tc := ⟨.hbm, 40, rfl⟩
abbrev main_call0_v0 : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_c_1 : Ref sig .tc := ⟨.hbm, 48, rfl⟩
abbrev main_call0_c_2 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_3 : Ref sig .tc := ⟨.hbm, 56, rfl⟩
abbrev main_call0_v12 : Ref sig .tc := ⟨.hbm, 57, rfl⟩
abbrev main_call0_v13 : Ref sig .tc := ⟨.hbm, 58, rfl⟩
abbrev main_call0_cst : Ref sig .tc := ⟨.hbm, 59, rfl⟩
abbrev main_call0_v14 : Ref sig .tc := ⟨.hbm, 60, rfl⟩
abbrev main_v26 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_5 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩

abbrev nD : Nat := 1
abbrev τ : Topo := Topo.v7x

variable {F : FTy → Type} [FloatOps F]
-- ==== Proof.ITrip.lean ====
/-
  The SparseCore kernel of `KernelIdeal`: what one vector subcore does, and what the launch asks of it.

  Thirty-two vector subcores each fetch 6400 words of the index array into their own scratch, and then make ten trips;
  a trip gathers five blocks of 128 table rows, all in flight at once, and copies each block out to its place of the
  result. The value is carried from the start: after a trip its five blocks of the result hold the table's rows named
  by the index array (`gathered`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pointwise.Index
public import proofs.«01_k».proof.Proof.Gen.KernelIdeal
public import proofs.«01_k».proof.Proof.Gen.KernelIdeal.Skeleton

@[expose] public section

set_option maxRecDepth 16384

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels below the SparseCore launch: the kernels' bodies and the two pipelines. -/
abbrev ΛP : Labels := Pipeline.Sig Λ₀ (Fin 2) fun p => (pcfgs (F := F) p).Adm
/-- The one SparseCore call. -/
abbrev K : SparseCore.Cfg τ sig (ΛP (F := F)) 1 := sc (F := F)
/-- The body table below the launch. -/
abbrev D [FloatOps F] : Defs nD τ sig (Elt F) (ΛP (F := F)) := Pipeline.defs pcfgs defs₀
/-- No label of the kernels' bodies recurs. -/
abbrev 𝒱₀ : Variants := Variants.none
/-- The pipelines' loops counted above them. -/
abbrev 𝒱 : Variants := 𝒱₀.lift
/-- The measure at which a tile's task is entered. -/
abbrev v₀ : 𝒱.V := Sum.inl none

/-- The call is on sixteen subcores -/
theorem nSub_zero : (K (F := F)).nSub 0 = 16 := rfl
/-- of each of two SparseCores. -/
theorem nCore_zero : (K (F := F)).nCore 0 = 2 := rfl

/-- The launch's layout: the four launch semaphores distinct and outside every scope, nothing shared by a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The ghost state -/

/-- The handshakes' rounds, -/
abbrev UH : Type := URounds (GSem nD τ sig) ℕ
/-- the pipelines' rounds, -/
abbrev UP : Type := URounds (GSem nD τ sig) Unit
/-- and the transfers' counters. -/
abbrev UU : Type := UH × (UP × Counters)

local notation "𝕄" => MT nD τ sig (HIx 1) (Elt F) ℕ UU ℕ

/-- The handshakes' component. -/
abbrev EH : Emb UH (MT nD τ sig (HIx 1) (Elt F) ℕ UU ℕ) := embL
/-- The pipelines' component. -/
abbrev EP : Emb UP (MT nD τ sig (HIx 1) (Elt F) ℕ UU ℕ) := (Emb.inl : Emb UP (UP × Counters)).trans embR

/-! ## The arrays and the subcore's own memory -/

/-- The gathered table, the index array, and the result of the call. -/
abbrev tLoc (d : Dev nD) : Loc nD τ sig := (SparseCore.T d).loc main_v2
/-- The flat list of indices. -/
abbrev xLoc (d : Dev nD) : Loc nD τ sig := (SparseCore.T d).loc main_v3
/-- The gathered rows. -/
abbrev oLoc (d : Dev nD) : Loc nD τ sig := (SparseCore.T d).loc main_v4

local notation "tV" => (Memref.whole Cert.KernelIdeal.main_v2_scv : Memref Cert.KernelIdeal.sig Kind.scVector Space.hbm Cert.KernelIdeal.S100000x128 EltTy.f32)
local notation "xV" => (Memref.whole Cert.KernelIdeal.main_v3_scv : Memref Cert.KernelIdeal.sig Kind.scVector Space.hbm Cert.KernelIdeal.S204800 EltTy.i32)
local notation "oV" => (Memref.whole Cert.KernelIdeal.main_v4_scv : Memref Cert.KernelIdeal.sig Kind.scVector Space.hbm Cert.KernelIdeal.S204800x128 EltTy.f32)
local notation "lV" => (Memref.whole Cert.KernelIdeal.cc0_scratch0 : Memref Cert.KernelIdeal.sig Kind.scVector Space.vmem Cert.KernelIdeal.S6400 EltTy.i32)
local notation "b0" => (Memref.whole Cert.KernelIdeal.cc0_scratch1 : Memref Cert.KernelIdeal.sig Kind.scVector Space.vmem Cert.KernelIdeal.S128x128 EltTy.f32)
local notation "b1" => (Memref.whole Cert.KernelIdeal.cc0_scratch2 : Memref Cert.KernelIdeal.sig Kind.scVector Space.vmem Cert.KernelIdeal.S128x128 EltTy.f32)
local notation "b2" => (Memref.whole Cert.KernelIdeal.cc0_scratch3 : Memref Cert.KernelIdeal.sig Kind.scVector Space.vmem Cert.KernelIdeal.S128x128 EltTy.f32)
local notation "b3" => (Memref.whole Cert.KernelIdeal.cc0_scratch4 : Memref Cert.KernelIdeal.sig Kind.scVector Space.vmem Cert.KernelIdeal.S128x128 EltTy.f32)
local notation "b4" => (Memref.whole Cert.KernelIdeal.cc0_scratch5 : Memref Cert.KernelIdeal.sig Kind.scVector Space.vmem Cert.KernelIdeal.S128x128 EltTy.f32)

/-- The SparseCore and the vector subcore at grid coordinates `L`. -/
abbrev cV (L : grid0.Coords) : Fin τ.nSC := (L 0).castLE hcore0
/-- The vector subcore. -/
abbrev jV (L : grid0.Coords) : Fin τ.nSub := (L 1).castLE hsub0

/-- A share cut in five: one piece for each of the five gathers in flight. -/
abbrev fifth (q : PosShare TreeShare) (r : Fin 5) : PosShare TreeShare := pieceOf q 5 (by decide) r

/-- The words of the index array subcore `L` fetches, -/
abbrev xRow (L : grid0.Coords) : Memref sig .scVector .hbm S6400 .i32 :=
  (xV).slice (Rect.unit (s := S204800) (k0_off1 L) S6400.size (k0_off1_inb L)) (fun _ => rfl)
/-- the 128 of them trip `t`'s gather `r` reads, -/
abbrev lBlk (t : Fin k0_t1_loop.trips) (r : Fin 5) : Memref sig .scVector .vmem S128 .i32 :=
  (lV).slice (Rect.unit (s := S6400) (k0_off2 t (BitVec.ofNat 32 r.val)) S128.size (k0_off2_inb t r)) (fun _ => rfl)
/-- and the 128 rows of the result they fill. -/
abbrev oBlk (L : grid0.Coords) (t : Fin k0_t1_loop.trips) (r : Fin 5) : Memref sig .scVector .hbm S128x128 .f32 :=
  (oV).slice (Rect.unit (s := S204800x128) (k0_off3 L t (BitVec.ofNat 32 r.val)) S128x128.size (k0_off3_inb L t r)) (fun _ => rfl)
/-- All of the table, as the gathers name it. -/
abbrev tAll : Memref sig .scVector .hbm S100000x128 .f32 :=
  (tV).slice (Rect.unit (s := S100000x128) ![0, 0] S100000x128.size inb_S100000x128_S100000x128_0_0) (fun _ => rfl)

/-! ## What the call leaves -/

/-- The row of the table that a word names: the word itself, which the precondition bounds. -/
def rowOf (w : BitVec 32) : Fin 100000 := ⟨w.toNat % 100000, Nat.mod_lt _ (by decide)⟩

/-- The gathered rows: row `i` of the result is the table's row named by word `i` of the index array. -/
def gath (tb : S100000x128.Idx → F .f32) (ix : S204800.Idx → BitVec 32) : S204800x128.Idx → F .f32 :=
  fun i => tb (ix2 (rowOf (ix (ix1 (i 0)))) (i 1))

/-- Where word `x` of subcore `L`'s fetch comes from. -/
theorem xRow_emb (L : grid0.Coords) (x : S6400.Idx) :
    ((xRow L).view.emb x 0).val = 12800 * (L 1).val + 6400 * (L 0).val + (x 0).val := by
  show ((Rect.unit (s := S204800) (k0_off1 L) S6400.size (k0_off1_inb L)).emb x 0).val = _
  rw [Rect.emb_apply]
  simp only [Rect.unit, k0_off1_eq]
  simp

/-- Where word `x` of trip `t`'s list `r` stands in the scratch. -/
theorem lBlk_emb (t : Fin k0_t1_loop.trips) (r : Fin 5) (x : S128.Idx) :
    ((lBlk t r).view.emb x 0).val = 640 * t.val + 128 * r.val + (x 0).val := by
  show ((Rect.unit (s := S6400) (k0_off2 t (BitVec.ofNat 32 r.val)) S128.size (k0_off2_inb t r)).emb x 0).val = _
  rw [Rect.emb_apply]
  simp only [Rect.unit, k0_off2_eq]
  simp

/-- Where element `x` of trip `t`'s block `r` stands in the result: its row -/
theorem oBlk_emb0 (L : grid0.Coords) (t : Fin k0_t1_loop.trips) (r : Fin 5) (x : S128x128.Idx) :
    ((oBlk L t r).view.emb x 0).val = 12800 * (L 1).val + 6400 * (L 0).val + 640 * t.val + 128 * r.val + (x 0).val := by
  show ((Rect.unit (s := S204800x128) (k0_off3 L t (BitVec.ofNat 32 r.val)) S128x128.size (k0_off3_inb L t r)).emb x 0).val = _
  rw [Rect.emb_apply]
  simp only [Rect.unit, k0_off3_eq]
  simp

/-- and its column. -/
theorem oBlk_emb1 (L : grid0.Coords) (t : Fin k0_t1_loop.trips) (r : Fin 5) (x : S128x128.Idx) :
    ((oBlk L t r).view.emb x 1).val = (x 1).val := by
  show ((Rect.unit (s := S204800x128) (k0_off3 L t (BitVec.ofNat 32 r.val)) S128x128.size (k0_off3_inb L t r)).emb x 1).val = _
  rw [Rect.emb_apply]
  simp only [Rect.unit, k0_off3_eq]
  simp

variable (d : Dev nD) (L : grid0.Coords) (t : Fin k0_t1_loop.trips)

/-- What subcore `L` fetches: its 6400 words of the index array. -/
def fetched (ix : S204800.Idx → BitVec 32) : S6400.Idx → BitVec 32 := fun x => ix ((xRow L).view.emb x)

/-- Every list of a subcore names rows of the table, when the index array does. -/
theorem list_in_range (ix : S204800.Idx → BitVec 32) (hix : ∀ j, (ix j).toNat < 100000) (r : Fin 5) (x : S128.Idx) :
    BitVec.toNat ((lBlk t r).view.read (Elt F) (fetched L ix) x) < S100000x128.size gathers_S100000x128_S128x128.axis :=
  hix _

/-- The rows a gather fetches are the rows the result wants: at block `r` of trip `t`. -/
theorem payload_eq (ft : S100000x128.Idx → F .f32) (ix : S204800.Idx → BitVec 32) (hix : ∀ j, (ix j).toNat < 100000) (r : Fin 5)
    (hn : S128.numel = S128x128.size gathers_S100000x128_S128x128.axis')
    (hin : ∀ x, BitVec.toNat ((lBlk t r).view.read (Elt F) (fetched L ix) x) < S100000x128.size gathers_S100000x128_S128x128.axis) (x : S128x128.Idx) :
    SparseCore.gatherPayload (F := F) (e := .f32) gathers_S100000x128_S128x128 ((tAll).view.read (Elt F) ft)
        (SparseCore.rows (F := F) ((lBlk t r).view.read (Elt F) (fetched L ix)) hn hin) x
      = gath ft ix ((oBlk L t r).view.emb x) := by
  have hk : ∀ k : Fin S128.numel, (S128.rowMajor.symm k 0).val = k.val := fun k => by
    have h := Shape.rowMajor_val_one (d := ![128]) (S128.rowMajor.symm k)
    rw [← h]; exact congrArg Fin.val (S128.rowMajor.apply_symm_apply k)
  have hemb : ∀ (y : S100000x128.Idx) (a : Fin 2), ((tAll).view.emb y a).val = (y a).val := fun y a => by
    show ((Rect.unit (s := S100000x128) ![0, 0] S100000x128.size inb_S100000x128_S100000x128_0_0).emb y a).val = _
    rw [Rect.emb_apply]
    match a with
    | 0 => simp [Rect.unit]
    | 1 => simp [Rect.unit]
  show ft ((tAll).view.emb (gathers_S100000x128_S128x128.idx _ x)) = ft _
  congr 1
  funext a
  apply Fin.ext
  rw [hemb]
  match a with
  | 0 =>
    refine (congrArg Fin.val (gathers_S100000x128_S128x128.idx_axis _ x)).trans ?_
    show (fetched L ix ((lBlk t r).view.emb _)).toNat = (ix (ix1 ((oBlk L t r).view.emb x 0))).toNat % 100000
    rw [Nat.mod_eq_of_lt (hix _)]
    show (ix ((xRow L).view.emb ((lBlk t r).view.emb _))).toNat = _
    congr 2
    funext b
    apply Fin.ext
    match b with
    | 0 =>
      show ((xRow L).view.emb ((lBlk t r).view.emb _) 0).val = ((oBlk L t r).view.emb x 0).val
      rw [xRow_emb, lBlk_emb, oBlk_emb0, hk]
      show _ + (_ + (x 0).val) = _
      omega
  | 1 =>
    refine (gathers_S100000x128_S128x128.idx_of_ne _ x 1 (by decide)).trans ?_
    show (x 1).val = ((oBlk L t r).view.emb x 1).val
    rw [oBlk_emb1]

/-- A block written whole with the rows its gather fetched holds, on its own elements, the gathered rows. -/
theorem block_val (ft : S100000x128.Idx → F .f32) (ix : S204800.Idx → BitVec 32) (fo : S204800x128.Idx → F .f32) (r : Fin 5)
    (pay : S128x128.Idx → F .f32) (hpay : ∀ x, pay x = gath ft ix ((oBlk L t r).view.emb x)) (i : S204800x128.Idx) (hi : i ∈ (oBlk L t r).view.set) :
    (oBlk L t r).view.writes (Elt F) fo [⟨Rect.whole S128x128, pay⟩] i = gath ft ix i := by
  obtain ⟨x, -, rfl⟩ := Finset.mem_map.mp hi
  rw [← hpay x]
  have h := View.read_writes_cons_emb (Val := Elt F) (v := (oBlk L t r).view) (f := fo) (Rect.whole S128x128) pay [] x
  rw [Rect.emb_whole_apply] at h
  exact h

/-- A row buffer filled whole reads back what filled it. -/
theorem read_filled (M : Memref sig .scVector .vmem S128x128 .f32) (g : M.view.ty.Contents (Elt F)) (pay : S128x128.Idx → F .f32) (x : S128x128.Idx) :
    (ReadAs.same : ReadAs (Elt F) S128x128 .f32 S128x128 .f32).apply
      (M.view.read (Elt F) (M.view.writes (Elt F) g [⟨Rect.whole S128x128, pay⟩])) x = pay x := by
  have h := View.read_writes_cons_emb (Val := Elt F) (v := M.view) (f := g) (Rect.whole S128x128) pay [] x
  rw [Rect.emb_whole_apply] at h
  exact h

variable [FloatOps F]

section Trip

/-- What a trip works with: five shares of the table and of the list, five row buffers, its ten semaphores at zero, -/
def tripHeld (q : PosShare TreeShare) (ft : Buf (Elt F) ((tV).view.loc (V d (cV L) (jV L)))) (fl : Buf (Elt F) ((lV).view.loc (V d (cV L) (jV L)))) : sProp 𝕄 :=
  iprop((((tV).view.loc (V d (cV L) (jV L)) ↦{fifth q 0} ft) ∗ ((tV).view.loc (V d (cV L) (jV L)) ↦{fifth q 1} ft) ∗ ((tV).view.loc (V d (cV L) (jV L)) ↦{fifth q 2} ft) ∗ ((tV).view.loc (V d (cV L) (jV L)) ↦{fifth q 3} ft) ∗ ((tV).view.loc (V d (cV L) (jV L)) ↦{fifth q 4} ft))
    ∗ (((lV).view.loc (V d (cV L) (jV L)) ↦{fifth fullShare 0} fl) ∗ ((lV).view.loc (V d (cV L) (jV L)) ↦{fifth fullShare 1} fl) ∗ ((lV).view.loc (V d (cV L) (jV L)) ↦{fifth fullShare 2} fl) ∗ ((lV).view.loc (V d (cV L) (jV L)) ↦{fifth fullShare 3} fl) ∗ ((lV).view.loc (V d (cV L) (jV L)) ↦{fifth fullShare 4} fl))
    ∗ ((∃ g, (b0).view.loc (V d (cV L) (jV L)) ↦{fullShare} g) ∗ (∃ g, (b1).view.loc (V d (cV L) (jV L)) ↦{fullShare} g) ∗ (∃ g, (b2).view.loc (V d (cV L) (jV L)) ↦{fullShare} g) ∗ (∃ g, (b3).view.loc (V d (cV L) (jV L)) ↦{fullShare} g) ∗ (∃ g, (b4).view.loc (V d (cV L) (jV L)) ↦{fullShare} g))
    ∗ semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0 ∗ semVal ((V d (cV L) (jV L)), SemLoc.dma cc0_scratch10.sem) 0 ∗ semVal ((V d (cV L) (jV L)), SemLoc.dma cc0_scratch11.sem) 0 ∗ semVal ((V d (cV L) (jV L)), SemLoc.dma cc0_scratch12.sem) 0 ∗ semVal ((V d (cV L) (jV L)), SemLoc.dma cc0_scratch13.sem) 0 ∗ semVal ((V d (cV L) (jV L)), SemLoc.dma cc0_scratch14.sem) 0 ∗ semVal ((V d (cV L) (jV L)), SemLoc.dma cc0_scratch15.sem) 0)

/-- and the five blocks of the result it fills. -/
def tripBlks (fo : Buf (Elt F) ((oV).view.loc (V d (cV L) (jV L)))) : sProp 𝕄 :=
  iprop(((oBlk L t 0).view.loc (V d (cV L) (jV L)) ↦[(oBlk L t 0).view.set]{fullShare} fo) ∗ ((oBlk L t 1).view.loc (V d (cV L) (jV L)) ↦[(oBlk L t 1).view.set]{fullShare} fo) ∗ ((oBlk L t 2).view.loc (V d (cV L) (jV L)) ↦[(oBlk L t 2).view.set]{fullShare} fo) ∗ ((oBlk L t 3).view.loc (V d (cV L) (jV L)) ↦[(oBlk L t 3).view.set]{fullShare} fo) ∗ ((oBlk L t 4).view.loc (V d (cV L) (jV L)) ↦[(oBlk L t 4).view.set]{fullShare} fo))

set_option maxHeartbeats 4000000 in
/-- One trip: five gathers in flight, each block copied out as it arrives, all ten transfers awaited. -/
theorem trip (q : PosShare TreeShare) (ft : Buf (Elt F) ((tV).view.loc (V d (cV L) (jV L)))) (ix : S204800.Idx → BitVec 32) (hix : ∀ j, (ix j).toNat < 100000)
    (fo : Buf (Elt F) ((oV).view.loc (V d (cV L) (jV L)))) (v2 : BitVec 32) (O : CellTallies nD τ sig (HIx 1)) (W : Waits sig (HIx 1)) :
    (iprop(Transfers.MayWaits (V d (cV L) (jV L)) (none : HIx 1) O ∗ tripHeld d L q ft (fetched L ix) ∗ tripBlks d L t fo ∗ owes (V d (cV L) (jV L)) O W) : sProp 𝕄)
      ⊢ wp frame (wpE (defs₀ (F := F)) 𝒱₀ (V d (cV L) (jV L)) none) Set.univ
          (k0_t1_body L tV (Memref.isWhole_whole _) xV (Memref.isWhole_whole _) oV (Memref.isWhole_whole _) lV (Memref.isWhole_whole _)
            b0 (Memref.isWhole_whole _) b1 (Memref.isWhole_whole _) b2 (Memref.isWhole_whole _) b3 (Memref.isWhole_whole _) b4 (Memref.isWhole_whole _)
            cc0_scratch6 cc0_scratch7 cc0_scratch8 cc0_scratch9 cc0_scratch10 cc0_scratch11 cc0_scratch12 cc0_scratch13 cc0_scratch14 cc0_scratch15
            cc0_scoped0 v2 t ())
          fun _ => iprop(Transfers.MayWaits (V d (cV L) (jV L)) (none : HIx 1) O ∗ tripHeld d L q ft (fetched L ix) ∗ tripBlks d L t (gath ft ix)
            ∗ ∃ W', ⌜∀ p ∈ W', p ∈ W ∨ p.2 = none⌝ ∗ owes (V d (cV L) (jV L)) O W') := by
  have hin0 : ∀ x, BitVec.toNat ((((lV).slice (Rect.unit (s := S6400) (k0_off2 t 0#32) S128.size (k0_off2_inb t 0)) (fun _ => rfl) : Memref sig .scVector .vmem S128 .i32)).view.read (Elt F) (fetched L ix) x) < S100000x128.size gathers_S100000x128_S128x128.axis :=
    list_in_range (F := F) L t ix hix 0
  have hin1 : ∀ x, BitVec.toNat ((((lV).slice (Rect.unit (s := S6400) (k0_off2 t 1#32) S128.size (k0_off2_inb t 1)) (fun _ => rfl) : Memref sig .scVector .vmem S128 .i32)).view.read (Elt F) (fetched L ix) x) < S100000x128.size gathers_S100000x128_S128x128.axis :=
    list_in_range (F := F) L t ix hix 1
  have hin2 : ∀ x, BitVec.toNat ((((lV).slice (Rect.unit (s := S6400) (k0_off2 t 2#32) S128.size (k0_off2_inb t 2)) (fun _ => rfl) : Memref sig .scVector .vmem S128 .i32)).view.read (Elt F) (fetched L ix) x) < S100000x128.size gathers_S100000x128_S128x128.axis :=
    list_in_range (F := F) L t ix hix 2
  have hin3 : ∀ x, BitVec.toNat ((((lV).slice (Rect.unit (s := S6400) (k0_off2 t 3#32) S128.size (k0_off2_inb t 3)) (fun _ => rfl) : Memref sig .scVector .vmem S128 .i32)).view.read (Elt F) (fetched L ix) x) < S100000x128.size gathers_S100000x128_S128x128.axis :=
    list_in_range (F := F) L t ix hix 3
  have hin4 : ∀ x, BitVec.toNat ((((lV).slice (Rect.unit (s := S6400) (k0_off2 t 4#32) S128.size (k0_off2_inb t 4)) (fun _ => rfl) : Memref sig .scVector .vmem S128 .i32)).view.read (Elt F) (fetched L ix) x) < S100000x128.size gathers_S100000x128_S128x128.axis :=
    list_in_range (F := F) L t ix hix 4
  conv_rhs =>
    unfold k0_t1_body
    simp only [k0_part1_eq_skeleton, k0_part2_eq_skeleton]
    unfold k0_part1_skel k0_part2_skel
  unfold tripHeld tripBlks
  iintro ⟨Hmw, ⟨⟨Ht0, Ht1, Ht2, Ht3, Ht4⟩, ⟨Hl0, Hl1, Hl2, Hl3, Hl4⟩, ⟨⟨%g0, Hb0⟩, ⟨%g1, Hb1⟩, ⟨%g2, Hb2⟩, ⟨%g3, Hb3⟩, ⟨%g4, Hb4⟩⟩,
    ⟨Hs6, Hs7, Hs8, Hs9, Hs10, Hs11, Hs12, Hs13, Hs14, Hs15⟩⟩, ⟨Ho0, Ho1, Ho2, Ho3, Ho4⟩, HO⟩
  sl_exec
  sl_step
  isplitl [Hmw]
  · iexact Hmw
  isplitr [Ho0 Ho1 Ho2 Ho3 Ho4 HO]
  · isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hl0 Hl1 Hl2 Hl3 Hl4]
    · isplitl [Hl0]; · iexact Hl0
      isplitl [Hl1]; · iexact Hl1
      isplitl [Hl2]; · iexact Hl2
      isplitl [Hl3]; · iexact Hl3
      iexact Hl4
    isplitl [Hb0 Hb1 Hb2 Hb3 Hb4]
    · isplitl [Hb0]; · iexists _; iexact Hb0
      isplitl [Hb1]; · iexists _; iexact Hb1
      isplitl [Hb2]; · iexists _; iexact Hb2
      isplitl [Hb3]; · iexists _; iexact Hb3
      iexists _; iexact Hb4
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  isplitr [HO]
  · isplitl [Ho0]
    · exact Entails.of_eq (pointsTo_congr (block_val (F := F) L t ft ix fo 0 _ fun x => (read_filled b0 g0 _ x).trans (payload_eq (F := F) L t ft ix hix 0 rfl hin0 x)))
    isplitl [Ho1]
    · exact Entails.of_eq (pointsTo_congr (block_val (F := F) L t ft ix fo 1 _ fun x => (read_filled b1 g1 _ x).trans (payload_eq (F := F) L t ft ix hix 1 rfl hin1 x)))
    isplitl [Ho2]
    · exact Entails.of_eq (pointsTo_congr (block_val (F := F) L t ft ix fo 2 _ fun x => (read_filled b2 g2 _ x).trans (payload_eq (F := F) L t ft ix hix 2 rfl hin2 x)))
    isplitl [Ho3]
    · exact Entails.of_eq (pointsTo_congr (block_val (F := F) L t ft ix fo 3 _ fun x => (read_filled b3 g3 _ x).trans (payload_eq (F := F) L t ft ix hix 3 rfl hin3 x)))
    exact Entails.of_eq (pointsTo_congr (block_val (F := F) L t ft ix fo 4 _ fun x => (read_filled b4 g4 _ x).trans (payload_eq (F := F) L t ft ix hix 4 rfl hin4 x)))
  iexists _; isplitr
  swap; · iexact HO
  · ipureintro
    intro p hp
    simp only [Finset.mem_insert] at hp
    rcases hp with rfl | rfl | rfl | rfl | rfl | rfl | rfl | rfl | rfl | rfl | hp <;> first | exact Or.inr rfl | exact Or.inl hp

end Trip

end Cert.KernelIdeal.Own

end
-- ==== Proof.ITile.lean ====
/-
  One vector subcore's whole task at symbolic grid coordinates, and the obligation the launch asks of every subcore:
  from a share of the table, a share of the index array and its 6400 rows of the result, the task leaves those rows
  holding the gathered rows and everything else as it found it.
-/
module

public import proofs.«01_k».proof.Proof.ITrip

@[expose] public section

set_option maxRecDepth 16384

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v2_scv : Memref Cert.KernelIdeal.sig Kind.scVector Space.hbm Cert.KernelIdeal.S100000x128 EltTy.f32)
local notation "xV" => (Memref.whole Cert.KernelIdeal.main_v3_scv : Memref Cert.KernelIdeal.sig Kind.scVector Space.hbm Cert.KernelIdeal.S204800 EltTy.i32)
local notation "oV" => (Memref.whole Cert.KernelIdeal.main_v4_scv : Memref Cert.KernelIdeal.sig Kind.scVector Space.hbm Cert.KernelIdeal.S204800x128 EltTy.f32)
local notation "lV" => (Memref.whole Cert.KernelIdeal.cc0_scratch0 : Memref Cert.KernelIdeal.sig Kind.scVector Space.vmem Cert.KernelIdeal.S6400 EltTy.i32)
local notation "b0" => (Memref.whole Cert.KernelIdeal.cc0_scratch1 : Memref Cert.KernelIdeal.sig Kind.scVector Space.vmem Cert.KernelIdeal.S128x128 EltTy.f32)
local notation "b1" => (Memref.whole Cert.KernelIdeal.cc0_scratch2 : Memref Cert.KernelIdeal.sig Kind.scVector Space.vmem Cert.KernelIdeal.S128x128 EltTy.f32)
local notation "b2" => (Memref.whole Cert.KernelIdeal.cc0_scratch3 : Memref Cert.KernelIdeal.sig Kind.scVector Space.vmem Cert.KernelIdeal.S128x128 EltTy.f32)
local notation "b3" => (Memref.whole Cert.KernelIdeal.cc0_scratch4 : Memref Cert.KernelIdeal.sig Kind.scVector Space.vmem Cert.KernelIdeal.S128x128 EltTy.f32)
local notation "b4" => (Memref.whole Cert.KernelIdeal.cc0_scratch5 : Memref Cert.KernelIdeal.sig Kind.scVector Space.vmem Cert.KernelIdeal.S128x128 EltTy.f32)

/-- Five in a row. -/
theorem bigSep_five (Φ : Fin 5 → sProp 𝕄) :
    bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- The subcore's number among the thirty-two, as the program counts. -/
def wid (L : grid0.Coords) : Fin 32 := ⟨2 * (L 1).val + (L 0).val, by
  have h0 : (L 0).val < 2 := (L 0).isLt
  have h1 : (L 1).val < 16 := (L 1).isLt
  omega⟩
/-- A share cut in thirty-two: one piece for each subcore. -/
abbrev part32 (w : Fin 32) : PosShare TreeShare := pieceOf fullShare 32 (by decide) w

/-- A cell of the subcore's own: a DMA semaphore of its task. -/
theorem own_cell (d : Dev nD) (L : grid0.Coords) (s : DmaSem sig) (h : (SemLoc.dma s : SemLoc sig).isScoped .scVector = true) :
    ((V d (cV L) (jV L), SemLoc.dma s) : GSem nD τ sig) ∈ ownCells (V d (cV L) (jV L)) := (mem_ownCells (g := (V d (cV L) (jV L), SemLoc.dma s))).mpr ⟨rfl, h⟩
/-- Two cells of different semaphores differ. -/
theorem cell_ne (d : Dev nD) (L : grid0.Coords) {s s' : SemLoc sig} (h : s ≠ s') : ((V d (cV L) (jV L), s) : GSem nD τ sig) ≠ (V d (cV L) (jV L), s') :=
  fun e => h (congrArg Prod.snd e)
/-- A buffer of the subcore's own. -/
theorem own_ref (L : grid0.Coords) (b : Ref sig .scVector) (h : ((Proc.scVector (cV L) (jV L)).devRef b : DevRef τ sig).owner = .proc (Proc.scVector (cV L) (jV L))) :
    ((Proc.scVector (cV L) (jV L)).devRef b : DevRef τ sig) ∈ ownRefs (τ := τ) (sig := sig) (.scVector (cV L) (jV L)) :=
  SparseCore.Cfg.mem_ownRefs_of_owner (p := Proc.scVector (cV L) (jV L)) (b := (Proc.scVector (cV L) (jV L)).devRef b) h

section Tile

variable (d : Dev nD) (L : grid0.Coords)

/-- The cells and the buffers the task does not touch. -/
def otherCells : Finset (GSem nD τ sig) := (((((((((((ownCells (V d (cV L) (jV L))).erase ((V d (cV L) (jV L)), SemLoc.dma cc0_scratch6.sem)).erase ((V d (cV L) (jV L)), SemLoc.dma cc0_scratch7.sem)).erase ((V d (cV L) (jV L)), SemLoc.dma cc0_scratch8.sem)).erase ((V d (cV L) (jV L)), SemLoc.dma cc0_scratch9.sem)).erase ((V d (cV L) (jV L)), SemLoc.dma cc0_scratch10.sem)).erase ((V d (cV L) (jV L)), SemLoc.dma cc0_scratch11.sem)).erase ((V d (cV L) (jV L)), SemLoc.dma cc0_scratch12.sem)).erase ((V d (cV L) (jV L)), SemLoc.dma cc0_scratch13.sem)).erase ((V d (cV L) (jV L)), SemLoc.dma cc0_scratch14.sem)).erase ((V d (cV L) (jV L)), SemLoc.dma cc0_scratch15.sem)).erase ((V d (cV L) (jV L)), SemLoc.dma cc0_scoped0.sem)
/-- The buffers it does not touch. -/
def otherRefs : Finset (DevRef τ sig) := ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)

/-- The subcore's semaphores: the task's eleven at zero, and the rest. -/
theorem ownSems0_V : (ownSems0 (V d (cV L) (jV L)) : sProp 𝕄)
      = iprop(semVal ((V d (cV L) (jV L)), SemLoc.dma cc0_scratch6.sem) 0 ∗ semVal ((V d (cV L) (jV L)), SemLoc.dma cc0_scratch7.sem) 0 ∗ semVal ((V d (cV L) (jV L)), SemLoc.dma cc0_scratch8.sem) 0 ∗ semVal ((V d (cV L) (jV L)), SemLoc.dma cc0_scratch9.sem) 0 ∗ semVal ((V d (cV L) (jV L)), SemLoc.dma cc0_scratch10.sem) 0 ∗ semVal ((V d (cV L) (jV L)), SemLoc.dma cc0_scratch11.sem) 0 ∗ semVal ((V d (cV L) (jV L)), SemLoc.dma cc0_scratch12.sem) 0 ∗ semVal ((V d (cV L) (jV L)), SemLoc.dma cc0_scratch13.sem) 0 ∗ semVal ((V d (cV L) (jV L)), SemLoc.dma cc0_scratch14.sem) 0 ∗ semVal ((V d (cV L) (jV L)), SemLoc.dma cc0_scratch15.sem) 0 ∗ semVal ((V d (cV L) (jV L)), SemLoc.dma cc0_scoped0.sem) 0 ∗ bigSep (otherCells d L) fun g => semVal g 0) := by
  unfold SparseCore.Cfg.ownSems0 otherCells
  rw [SparseCore.bigSep_erase' (own_cell d L cc0_scratch6.sem (by decide)),
    SparseCore.bigSep_erase' (Finset.mem_erase.mpr ⟨cell_ne d L (by decide), own_cell d L cc0_scratch7.sem (by decide)⟩),
    SparseCore.bigSep_erase' (Finset.mem_erase.mpr ⟨cell_ne d L (by decide), Finset.mem_erase.mpr ⟨cell_ne d L (by decide), own_cell d L cc0_scratch8.sem (by decide)⟩⟩),
    SparseCore.bigSep_erase' (Finset.mem_erase.mpr ⟨cell_ne d L (by decide), Finset.mem_erase.mpr ⟨cell_ne d L (by decide), Finset.mem_erase.mpr ⟨cell_ne d L (by decide), own_cell d L cc0_scratch9.sem (by decide)⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), own_cell d L cc0_scratch10.sem (by decide)⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), own_cell d L cc0_scratch11.sem (by decide)⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), own_cell d L cc0_scratch12.sem (by decide)⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), own_cell d L cc0_scratch13.sem (by decide)⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), own_cell d L cc0_scratch14.sem (by decide)⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), own_cell d L cc0_scratch15.sem (by decide)⟩⟩⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), own_cell d L cc0_scoped0.sem (by decide)⟩⟩⟩⟩⟩⟩⟩⟩⟩⟩)]

/-- The subcore's buffers: the task's six at some contents, and the rest. -/
theorem ownBufs_V : (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ bigSep (otherRefs L) fun b => iprop(∃ f, ((d, b) : Loc nD τ sig) ↦{fullShare} f)) := by
  unfold SparseCore.Cfg.ownBufs otherRefs
  rw [SparseCore.bigSep_erase' (own_ref L cc0_scratch0 rfl),
    SparseCore.bigSep_erase' (Finset.mem_erase.mpr ⟨fun e => absurd (Proc.devRef_injective _ e) (show (cc0_scratch1 : Ref sig .scVector) ≠ cc0_scratch0 by decide), own_ref L cc0_scratch1 rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), own_ref L cc0_scratch2 rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), own_ref L cc0_scratch3 rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), own_ref L cc0_scratch4 rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), own_ref L cc0_scratch5 rfl⟩⟩⟩⟩⟩)]

variable [FloatOps F]

/-- The blocks after `k` trips: those of the trips made hold the gathered rows. -/
def blksAt (ft : S100000x128.Idx → F .f32) (ix : S204800.Idx → BitVec 32) (fo : S204800x128.Idx → F .f32) (k : ℕ) : sProp 𝕄 :=
  bigSep Finset.univ fun t : Fin k0_t1_loop.trips => tripBlks (F := F) d L t (if t.val < k then gath ft ix else fo)

/-- One trip's blocks taken out, and put back done. -/
theorem blksAt_step (ft : S100000x128.Idx → F .f32) (ix : S204800.Idx → BitVec 32) (fo : S204800x128.Idx → F .f32) (k : Fin k0_t1_loop.trips) :
    blksAt (F := F) d L ft ix fo k.val ⊢ iprop(tripBlks (F := F) d L k fo ∗ (tripBlks (F := F) d L k (gath ft ix) -∗ blksAt (F := F) d L ft ix fo (k.val + 1))) := by
  unfold blksAt
  rw [SparseCore.bigSep_erase' (Finset.mem_univ k), SparseCore.bigSep_erase' (Finset.mem_univ k) (Φ := fun t : Fin k0_t1_loop.trips => tripBlks (F := F) d L t (if t.val < k.val + 1 then gath ft ix else fo)),
    if_neg (lt_irrefl _), if_pos (Nat.lt_succ_self _)]
  rw [bigSep_congr (s := Finset.univ.erase k) (Φ := fun t : Fin k0_t1_loop.trips => tripBlks (F := F) d L t (if t.val < k.val then gath ft ix else fo))
    (Ψ := fun t : Fin k0_t1_loop.trips => tripBlks (F := F) d L t (if t.val < k.val + 1 then gath ft ix else fo)) (fun t ht => by
      have hne : t.val ≠ k.val := fun e => (Finset.mem_erase.mp ht).1 (Fin.ext e)
      by_cases h : t.val < k.val
      · rw [if_pos h, if_pos (Nat.lt_succ_of_lt h)]
      · rw [if_neg h, if_neg (by omega)])]
  iintro ⟨Hk, Hr⟩
  isplitl [Hk]; · iexact Hk
  iintro Hk'
  isplitl [Hk']; · iexact Hk'
  iexact Hr

/-- What the loop keeps. -/
def inv (ft : Buf (Elt F) ((tV).view.loc (V d (cV L) (jV L)))) (ix : S204800.Idx → BitVec 32) (fo : Buf (Elt F) ((oV).view.loc (V d (cV L) (jV L))))
    (O : CellTallies nD τ sig (HIx 1)) (W : Waits sig (HIx 1)) (k : Nat) (_ : PUnit) : sProp 𝕄 :=
  iprop(Transfers.MayWaits (V d (cV L) (jV L)) (none : HIx 1) O ∗ tripHeld d L (part32 (wid L)) ft (fetched L ix) ∗ blksAt (F := F) d L ft ix fo k
    ∗ ∃ W', ⌜∀ p ∈ W', p ∈ W ∨ p.2 = none⌝ ∗ owes (V d (cV L) (jV L)) O W')

/-- What a task is given, and what it leaves: the shares of the table and of the index array, and its rows of the result. -/
def tileRes (ft : S100000x128.Idx → F .f32) (ix : S204800.Idx → BitVec 32) (fo : S204800x128.Idx → F .f32) : sProp 𝕄 :=
  iprop(((tV).view.loc (V d (cV L) (jV L)) ↦{part32 (wid L)} ft) ∗ ((xV).view.loc (V d (cV L) (jV L)) ↦{part32 (wid L)} ix)
    ∗ bigSep Finset.univ fun t : Fin k0_t1_loop.trips => tripBlks (F := F) d L t fo)

set_option maxHeartbeats 4000000 in
/-- The task on the vector subcore at `L`. -/
theorem tile_body (hF : (K (F := F)).Facts) (ft : S100000x128.Idx → F .f32) (ix : S204800.Idx → BitVec 32) (hix : ∀ j, (ix j).toNat < 100000)
    (fo : S204800x128.Idx → F .f32) (O : CellTallies nD τ sig (HIx 1)) (W : Waits sig (HIx 1)) (hO : ∀ g, O g none = 0) :
    (iprop(levAts (K (F := F)).L (K (F := F)).lev ∗ emp ∗ tileRes d L ft ix fo ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0_run L tV (Memref.isWhole_whole _) xV (Memref.isWhole_whole _) oV (Memref.isWhole_whole _) lV (Memref.isWhole_whole _)
            b0 (Memref.isWhole_whole _) b1 (Memref.isWhole_whole _) b2 (Memref.isWhole_whole _) b3 (Memref.isWhole_whole _) b4 (Memref.isWhole_whole _)
            cc0_scratch6 cc0_scratch7 cc0_scratch8 cc0_scratch9 cc0_scratch10 cc0_scratch11 cc0_scratch12 cc0_scratch13 cc0_scratch14 cc0_scratch15
            cc0_scoped0)
          fun _ => iprop(tileRes d L ft ix (gath ft ix) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  conv_rhs =>
    rw [cc0_run_eq_skeleton]
    unfold cc0_run_skel
  unfold tileRes
  iintro ⟨#Hlv, -, ⟨Ht, Hx, Ho⟩, ⟨⟨%fl, Hl⟩, Hb0, Hb1, Hb2, Hb3, Hb4, Hbr⟩, ⟨Hs6, Hs7, Hs8, Hs9, Hs10, Hs11, Hs12, Hs13, Hs14, Hs15, Hsc, Hsr⟩, HO⟩
  ihave Hmw := (show levAts (K (F := F)).L (K (F := F)).lev ⊢ Transfers.MayWaits (V d (cV L) (jV L)) (none : HIx 1) O from
    (K (F := F)).mayWaits_none (thr := (V d (cV L) (jV L))) hO) $$ Hlv
  ihave Hl' := (Entails.of_eq (show ((V d (cV L) (jV L)).loc cc0_scratch0 ↦{fullShare} fl : sProp 𝕄) = ((lV).view.loc (V d (cV L) (jV L)) ↦{fullShare} fl) from rfl)) $$ Hl
  sl_exec
  ihave Ht5 := (Entails.of_eq ((pointsTo_piecesOf (ℓ := (tV).view.loc (V d (cV L) (jV L))) Finset.univ ft (show 0 < 5 by decide) (part32 (wid L))).trans (bigSep_five _))) $$ Ht
  ihave Hl5 := (Entails.of_eq ((congrArg (fun f => ((lV).view.loc (V d (cV L) (jV L)) ↦{fullShare} f : sProp 𝕄)) (View.write_whole_univ _ _ _)).trans
    ((pointsTo_piecesOf (ℓ := (lV).view.loc (V d (cV L) (jV L))) Finset.univ (fetched L ix) (show 0 < 5 by decide) fullShare).trans (bigSep_five _)))) $$ Hl'
  have Ho0 := (Entails.of_eq (show (bigSep Finset.univ (fun t : Fin k0_t1_loop.trips => tripBlks (F := F) d L t fo) : sProp 𝕄) = blksAt (F := F) d L ft ix fo 0 from
    (bigSep_congr fun t _ => by rw [if_neg (Nat.not_lt_zero _)])))
  ihave Ho' := Ho0 $$ Ho
  sl_for (inv d L ft ix fo O W) $$ [Hmw Ht5 Hl5 Hb0 Hb1 Hb2 Hb3 Hb4 Hs6 Hs7 Hs8 Hs9 Hs10 Hs11 Hs12 Hs13 Hs14 Hs15 Ho' HO]
  case region =>
    intro k _
    unfold inv
    iintro ⟨Hmw, Hh, Hb, %W', %hW', HO⟩
    ihave Hb2 := (blksAt_step d L ft ix fo k) $$ Hb
    icases Hb2 with ⟨Hk, Hback⟩
    iapply wp_wand_r
    isplitl [Hmw Hh Hk HO]
    · iapply (trip d L k (part32 (wid L)) ft ix hix fo _ O W')
      isplitl [Hmw]; · iexact Hmw
      isplitl [Hh]; · iexact Hh
      isplitl [Hk]; · iexact Hk
      iexact HO
    iintro %_ ⟨Hmw, Hh, Hk, %W'', %hW'', HO⟩
    isplitl [Hmw]; · iexact Hmw
    isplitl [Hh]; · iexact Hh
    isplitl [Hback Hk]; · iapply Hback; iexact Hk
    iexists W''; isplitr
    · ipureintro; intro p hp
      rcases hW'' p hp with h | h
      · exact hW' p h
      · exact .inr h
    · iexact HO
  · unfold inv tripHeld
    isplitl [Hmw]; · iexact Hmw
    isplitr [Ho' HO]
    · isplitl [Ht5]; · iexact Ht5
      isplitl [Hl5]; · iexact Hl5
      isplitl [Hb0 Hb1 Hb2 Hb3 Hb4]
      · isplitl [Hb0]; · iexact Hb0
        isplitl [Hb1]; · iexact Hb1
        isplitl [Hb2]; · iexact Hb2
        isplitl [Hb3]; · iexact Hb3
        iexact Hb4
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      iexact Hs15
    isplitl [Ho']; · iexact Ho'
    iexists _; isplitr
    swap; · iexact HO
    ipureintro; intro p hp
    rcases Finset.mem_insert.mp hp with hp | hp; · exact .inr (hp ▸ rfl)
    exact .inl hp
  iintro %_ HI
  unfold inv tripHeld
  icases HI with ⟨-, ⟨Ht5, Hl5, ⟨Hb0, Hb1, Hb2, Hb3, Hb4⟩, ⟨Hs6, Hs7, Hs8, Hs9, Hs10, Hs11, Hs12, Hs13, Hs14, Hs15⟩⟩, Ho, %W', %hW', HO⟩
  sl_step
  ihave Ht := (Entails.of_eq ((pointsTo_piecesOf (ℓ := (tV).view.loc (V d (cV L) (jV L))) Finset.univ ft (show 0 < 5 by decide) (part32 (wid L))).trans (bigSep_five _)).symm) $$ Ht5
  ihave Hl := (Entails.of_eq ((pointsTo_piecesOf (ℓ := (lV).view.loc (V d (cV L) (jV L))) Finset.univ (fetched L ix) (show 0 < 5 by decide) fullShare).trans (bigSep_five _)).symm) $$ Hl5
  isplitl [Ht Hx Ho]
  · isplitl [Ht]; · iexact Ht
    isplitl [Hx]; · iexact Hx
    iapply (Entails.of_eq (show blksAt (F := F) d L ft ix fo k0_t1_loop.trips = (bigSep Finset.univ (fun t : Fin k0_t1_loop.trips => tripBlks (F := F) d L t (gath ft ix)) : sProp 𝕄) from
      (bigSep_congr fun t _ => by rw [if_pos t.isLt])))
    iexact Ho
  isplitl [Hl Hb0 Hb1 Hb2 Hb3 Hb4 Hbr]
  · isplitl [Hl]; · iexists _; iexact Hl
    isplitl [Hb0]; · iexact Hb0
    isplitl [Hb1]; · iexact Hb1
    isplitl [Hb2]; · iexact Hb2
    isplitl [Hb3]; · iexact Hb3
    isplitl [Hb4]; · iexact Hb4
    iexact Hbr
  isplitr [HO]
  · isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hsc]; · iexact Hsc
    iexact Hsr
  iexists W'; isplitr
  · ipureintro; exact hW'
  · iexact HO

end Tile

end Cert.KernelIdeal.Own

end
-- ==== Proof.ILaunch.lean ====
/-
  What the launch of the SparseCore call hands each subcore, and what each hands back: the table and the index array in
  thirty-two shares, the result in thirty-two blocks of rows. The obligations the launch theorem asks of the subcores'
  tasks, and the ghost state the program starts from.
-/
module

public import proofs.«01_k».proof.Proof.ITile
public import proofs.«01_k».proof.Proof.Gen.KernelIdeal.Launch
public import Idealize.ShloMosaic.Lib.Pipeline.Regions
public import Idealize.ShloMosaic.Lib.Pipeline.RegionArraysS

@[expose] public section

set_option maxRecDepth 16384

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v2_scv : Memref Cert.KernelIdeal.sig Kind.scVector Space.hbm Cert.KernelIdeal.S100000x128 EltTy.f32)
local notation "xV" => (Memref.whole Cert.KernelIdeal.main_v3_scv : Memref Cert.KernelIdeal.sig Kind.scVector Space.hbm Cert.KernelIdeal.S204800 EltTy.i32)
local notation "oV" => (Memref.whole Cert.KernelIdeal.main_v4_scv : Memref Cert.KernelIdeal.sig Kind.scVector Space.hbm Cert.KernelIdeal.S204800x128 EltTy.f32)
local notation "lV" => (Memref.whole Cert.KernelIdeal.cc0_scratch0 : Memref Cert.KernelIdeal.sig Kind.scVector Space.vmem Cert.KernelIdeal.S6400 EltTy.i32)
local notation "b0" => (Memref.whole Cert.KernelIdeal.cc0_scratch1 : Memref Cert.KernelIdeal.sig Kind.scVector Space.vmem Cert.KernelIdeal.S128x128 EltTy.f32)
local notation "b1" => (Memref.whole Cert.KernelIdeal.cc0_scratch2 : Memref Cert.KernelIdeal.sig Kind.scVector Space.vmem Cert.KernelIdeal.S128x128 EltTy.f32)
local notation "b2" => (Memref.whole Cert.KernelIdeal.cc0_scratch3 : Memref Cert.KernelIdeal.sig Kind.scVector Space.vmem Cert.KernelIdeal.S128x128 EltTy.f32)
local notation "b3" => (Memref.whole Cert.KernelIdeal.cc0_scratch4 : Memref Cert.KernelIdeal.sig Kind.scVector Space.vmem Cert.KernelIdeal.S128x128 EltTy.f32)
local notation "b4" => (Memref.whole Cert.KernelIdeal.cc0_scratch5 : Memref Cert.KernelIdeal.sig Kind.scVector Space.vmem Cert.KernelIdeal.S128x128 EltTy.f32)

/-- What the call finds: the table, the index array, and the result's old contents, on each device. -/
structure Given (F : FTy → Type) where
  tb : Dev nD → S100000x128.Idx → F .f32
  ix : Dev nD → S204800.Idx → BitVec 32
  fo : Dev nD → S204800x128.Idx → F .f32
  hix : ∀ d j, (ix d j).toNat < 100000

/-- Grid coordinates from a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))
/-- The coordinates of subcore `i` of SparseCore `c`. -/
abbrev co (c : Fin 2) (i : Fin 16) : grid0.Coords := coordsV c i

variable (γ : Given F)

/-- A subcore's holdings before its task, and after. -/
abbrev goRes (d : Dev nD) (L : grid0.Coords) : sProp 𝕄 := tileRes (F := F) d L (γ.tb d) (γ.ix d) (γ.fo d)
/-- What it holds after. -/
abbrev tdRes (d : Dev nD) (L : grid0.Coords) : sProp 𝕄 := tileRes (F := F) d L (γ.tb d) (γ.ix d) (gath (γ.tb d) (γ.ix d))

/-- What the handshakes carry: to and from a SparseCore its sixteen subcores' holdings; to and from a subcore its own. -/
def Py : (K (F := F)).Pay (nD := nD) (Val := Elt F) (Name := ℕ) (U := UU) where
  st := fun q d c => match q with
    | 0 => bigSep Finset.univ fun i : Fin 16 => goRes γ d (co (Fin.cast nCore_zero c) i)
  dn := fun q d c => match q with
    | 0 => bigSep Finset.univ fun i : Fin 16 => tdRes γ d (co (Fin.cast nCore_zero c) i)
  go := fun q d c i => match q with
    | 0 => goRes γ d (co (Fin.cast nCore_zero c) (Fin.cast nSub_zero i))
  td := fun q d c i => match q with
    | 0 => tdRes γ d (co (Fin.cast nCore_zero c) (Fin.cast nSub_zero i))
  x := fun _ _ => iprop(emp)

/-- Such resources can be passed from one thread to another, -/
instance tileRes_storable (d : Dev nD) (L : grid0.Coords) (ft : S100000x128.Idx → F .f32) (ix : S204800.Idx → BitVec 32) (fo : S204800x128.Idx → F .f32) :
    BI.Storable (upEmb : UEmb _ 𝕄) (tileRes (F := F) d L ft ix fo) := by
  unfold tileRes tripBlks; infer_instance

attribute [local irreducible] tileRes gath

/-- and so can all that the call passes. -/
instance Py_storable : (Py γ).IsStorable where
  st q d c := match q with
    | 0 => (inferInstance : BI.Storable (upEmb : UEmb _ 𝕄) (bigSep Finset.univ fun i : Fin 16 => goRes γ d (co (Fin.cast nCore_zero c) i)))
  dn q d c := match q with
    | 0 => (inferInstance : BI.Storable (upEmb : UEmb _ 𝕄) (bigSep Finset.univ fun i : Fin 16 => tdRes γ d (co (Fin.cast nCore_zero c) i)))
  go q d c i := match q with
    | 0 => (inferInstance : BI.Storable (upEmb : UEmb _ 𝕄) (goRes γ d (co (Fin.cast nCore_zero c) (Fin.cast nSub_zero i))))
  td q d c i := match q with
    | 0 => (inferInstance : BI.Storable (upEmb : UEmb _ 𝕄) (tdRes γ d (co (Fin.cast nCore_zero c) (Fin.cast nSub_zero i))))

/-- A SparseCore's holdings are its subcores', going in and coming out. -/
theorem vecSplit : (K (F := F)).VecSplit' (Py γ) 0 := by
  intro d c
  show (bigSep Finset.univ fun i : Fin 16 => goRes γ d (co (Fin.cast nCore_zero c) i)) ⊢ |={Set.univ}=> iprop(
      (bigSep Finset.univ fun i : Fin 16 => goRes γ d (co (Fin.cast nCore_zero c) i))
      ∗ ((bigSep Finset.univ fun i : Fin 16 => tdRes γ d (co (Fin.cast nCore_zero c) i))
          -∗ (bigSep Finset.univ fun i : Fin 16 => tdRes γ d (co (Fin.cast nCore_zero c) i))))
  iintro H; imodintro
  isplitl [H]; · iexact H
  iintro H; iexact H

/-- A task's end, as the launch asks for it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl

variable [FloatOps F]

/-- The task the body table runs on a subcore. -/
theorem defs₀_vector (c : Fin τ.nSC) (s : Fin τ.nSub) :
    defs₀ (F := F) (.scVector c s) 0 ()
      = SparseCore.onTile hcore0 hsub0 (fun c s => cc0_run (coordsV c s) tV (Memref.isWhole_whole _) xV (Memref.isWhole_whole _) oV (Memref.isWhole_whole _) lV (Memref.isWhole_whole _)
            b0 (Memref.isWhole_whole _) b1 (Memref.isWhole_whole _) b2 (Memref.isWhole_whole _) b3 (Memref.isWhole_whole _) b4 (Memref.isWhole_whole _)
            cc0_scratch6 cc0_scratch7 cc0_scratch8 cc0_scratch9 cc0_scratch10 cc0_scratch11 cc0_scratch12 cc0_scratch13 cc0_scratch14 cc0_scratch15
            cc0_scoped0) ⟨⟩ c s := rfl

/-- Every subcore's obligation to the launch. -/
theorem tileObl (hF : (K (F := F)).Facts) : (K (F := F)).TileObl (D (F := F)) 𝒱 (Py γ) v₀ 0 := by
  intro d c i O W hO _ _
  simp only [show (Py γ).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (γ.tb d) (γ.ix d) (γ.hix d) (γ.fo d) O W hO).trans (wp_mono frame _ _ fun _ => obl_post)

end Obl

/-! ## The ghost state the program starts from -/

/-- The pipelines read no table in advance. -/
abbrev adm : (p : Fin 2) → (pcfgs (F := F) p).Adm := fun p => (cfgs p).toPCfg_adm

/-- The handshakes' cells, the pipelines' cells and transfers, and no counter yet. -/
def u₀ : UU := (initOf (K (F := F)).hsCells (K (F := F)).hsToks, (initOf (Pipeline.cells cfgs cellOf_inj) (Pipeline.launchToks cfgs cellOf_inj), 1))

/-- What a TensorCore holds of the pipelines' ghost state. -/
def Gh (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

/-- A conjunction of nothings is nothing. -/
theorem bigSep_emp' {I : Type} (s : Finset I) : (bigSep s fun _ => iprop(emp)) = (iprop(emp) : sProp 𝕄) := bigSep_emp_const s

/-- Two in a row. -/
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The launch's element deals the handshakes theirs and each TensorCore its pipelines'. -/
theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (Py γ).x q thr) := by
  unfold u₀
  iintro Hu
  ihave H := (ownU_pair _ _) $$ Hu
  icases H with ⟨HH, HR⟩
  ihave H2 := (own_pair_emb _ _ _) $$ HR
  icases H2 with ⟨HP, -⟩
  imod (Pipeline.fund_ghost cfgs EP cellOf_inj) $$ HP with ⟨Hc, Ht⟩
  imodintro
  isplitl [HH]; · iexact HH
  isplitl [Hc Ht]
  · ihave Hc' := (Entails.of_eq (bigSep_univ_of_subsingleton (0 : Dev nD))) $$ Hc
    ihave Ht' := (Entails.of_eq (bigSep_univ_of_subsingleton (0 : Dev nD))) $$ Ht
    ihave Hc2 := (Entails.of_eq (bigSep_two _)) $$ Hc'
    ihave Ht2 := (Entails.of_eq (bigSep_two _)) $$ Ht'
    iapply (Entails.of_eq (bigSep_univ_of_subsingleton (0 : Dev nD)).symm)
    unfold Gh
    icases Hc2 with ⟨Hc0, Hc1⟩
    icases Ht2 with ⟨Ht0, Ht1⟩
    isplitl [Hc0 Ht0]
    · isplitl [Hc0]; · iexact Hc0
      iexact Ht0
    · isplitl [Hc1]; · iexact Hc1
      iexact Ht1
  rw [show (bigSep Finset.univ fun thr : Thread nD τ => bigSep Finset.univ fun q : Fin 1 => (Py γ).x q thr) = bigSep Finset.univ fun _ => iprop(emp) from
    bigSep_congr fun _ _ => bigSep_univ_of_subsingleton (0 : Fin 1), bigSep_emp']
  iempintro

end Cert.KernelIdeal.Own

end
-- ==== Proof.IBody.lean ====
/-
  The bodies of the two TensorCore kernels: at every grid point each leaves in its output block the printed payload of its
  input blocks.
-/
module

public import proofs.«01_k».proof.Proof.ILaunch
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf arrRef)

variable {F : FTy → Type} [FloatOps F]

local notation "𝕄" => MT nD τ sig (HIx 1) (Elt F) ℕ UU ℕ

/-! ## The counting kernel -/

section Body1

variable (V : Dev nD → Valuation τ sig (Elt F))

/-- Window `w`'s block at point `t`, read off the contents the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (arrRef spec1 w)))

/-- What the one store of the body leaves, from the blocks it loaded. -/
def left1 (x0 : Vec F S8x200 .i32) : Vec F S1600x1 .f32 :=
  View.canon [⟨Rect.unit (s := S1600x1) ![0, 0] S1600x1.size inb_S1600x1_S1600x1_0_0, k1_pay1 (View.ld x0 (Rect.unit (s := S8x200) ![0, 0] S8x200.size inb_S8x200_S8x200_0_0))⟩]

/-- It is the payload of the whole blocks. -/
theorem left1_eq (x0 : Vec F S8x200 .i32) : left1 x0 = k1_pay1 x0 := by
  unfold left1
  have h0 : (![0, 0] : Fin 2 → Nat) = fun _ => 0 := by decide
  rw [View.canon_unit_zero h0]
  rw [View.ld_unit_zero (S := S8x200) h0]

/-- The store covers the buffer. -/
theorem cover1 (p : Vec F S1600x1 .f32) (y : S1600x1.Idx) :
    ∃ pc ∈ ([⟨Rect.unit (s := S1600x1) ![0, 0] S1600x1.size inb_S1600x1_S1600x1_0_0, p⟩] : List (View.Piece (Elt F) S1600x1 .f32)), y ∈ pc.1.set :=
  View.cover_of_tiled [⟨Rect.unit (s := S1600x1) ![0, 0] S1600x1.size inb_S1600x1_S1600x1_0_0, p⟩] S1600x1.size (by rfl) y

/-- One run of the body over its staging buffers: the inputs stay, the output holds `left1`. -/
theorem run1 (c : Dev nD) (i : grid1.Coords) (a0 : Memref sig .tc .vmem S8x200 .i32) (h0 : a0.IsWhole) (a1 : Memref sig .tc .vmem S1600x1 .f32) (h1 : a1.IsWhole)
    (x0 : Vec F S8x200 .i32) (K : PUnit → sProp 𝕄) :
    (iprop(owns (c : Thread nD τ) a0 fullShare x0 ∗ (∃ d, owns (c : Thread nD τ) a1 fullShare d)
        ∗ (iprop(owns (c : Thread nD τ) a0 fullShare x0 ∗ owns (c : Thread nD τ) a1 fullShare (left1 x0)) -∗ K ⟨⟩)) : sProp 𝕄)
      ⊢ wp frame (wpE (defs₀ (F := F)) 𝒱₀ c none) Set.univ (cc1_body i a0 h0 a1 h1) K := by
  rw [cc1_body_eq_skeleton]; unfold cc1_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1 _)

/-- The region's proof data: arrays at the contents found, blocks as read, the output's block computed from them. -/
def dat1 (c : Dev nD) : Dat τ (Elt F) (HIx 1) ℕ UU ℕ cfg1 c where
  A w := V c (Proc.devRef .tc (arrRef spec1 w))
  after w t := match w with
    | ⟨0, _⟩ => iblk1 V c 0 t
    | ⟨1, _⟩ => left1 (iblk1 V c 0 t)
  Φ _ := Pipeline.scopedRest spec1 c
  q _ := fullShare
  owed _ := 0

/-- What the proof data say that each window holds after the body: input window 0 its block, -/
theorem after1_0 (c : Dev nD) (t : Fin cfg1.N) : (dat1 V c).after 0 t = iblk1 V c 0 t := by dsimp only [dat1]
/-- the output window what the store leaves. -/
theorem after1_1 (c : Dev nD) (t : Fin cfg1.N) : (dat1 V c).after 1 t = left1 (iblk1 V c 0 t) := by dsimp only [dat1]
/-- Input window 0 holds its block whenever the body runs. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rfl) t d).trans
    (by unfold Dat.fetched Dat.blockOf iblk1; rfl)

/-- What the body is handed at point `t`, and what it leaves. -/
def bodyPre1 (c : Dev nD) (t : Fin cfg1.N) : sProp 𝕄 :=
  iprop((dat1 V c).Φ t.castSucc ∗ (dat1 V c).owesAt none t.castSucc
    ∗ (∃ d, owns (c : Thread nD τ) (st1_0 t) fullShare ((dat1 V c).before 0 t d))
    ∗ (∃ d, owns (c : Thread nD τ) (st1_1 t) fullShare ((dat1 V c).before 1 t d)))
/-- What it leaves. -/
def bodyPost1 (c : Dev nD) (t : Fin cfg1.N) : sProp 𝕄 :=
  iprop((dat1 V c).Φ t.succ ∗ (dat1 V c).owesAt none t.succ
    ∗ owns (c : Thread nD τ) (st1_0 t) fullShare ((dat1 V c).after 0 t)
    ∗ owns (c : Thread nD τ) (st1_1 t) fullShare ((dat1 V c).after 1 t))

/-- The body at point `t` goes from the one to the other. -/
theorem soundBody1 (c : Dev nD) (t : Fin cfg1.N) :
    bodyPre1 V c t ⊢ wp frame (wpE (defs₀ (F := F)) 𝒱₀ c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt none t.succ = (dat1 V c).owesAt none t.castSucc from rfl,
    after1_0, after1_1]
  iintro ⟨HΦ, Ho, ⟨%d0, H0⟩, ⟨%d1, H1⟩⟩
  iapply (run1 c (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region. -/
theorem obl1 (c : Dev nD) : BodyObligation (dat1 V c) (defs₀ (F := F)) 𝒱₀ none Set.univ := fun t => by
  rw [bigSep_W1, bigSep_W1]
  exact soundBody1 V c t

end Body1

/-! ## The combining kernel -/

section Body2

variable (V : Dev nD → Valuation τ sig (Elt F))

/-- Window `w`'s block at point `t`, read off the contents the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (arrRef spec2 w)))

/-- What the one store of the body leaves, from the blocks it loaded. -/
def left2 (x0 : Vec F S6400x128 .f32) (x1 : Vec F S6400x1 .f32) (x2 : Vec F S5x100 .f32) (x3 : Vec F S1x5 .f32) (x4 : Vec F S100x5 .f32) (x5 : Vec F S1x100 .f32) : Vec F S32x100 .f32 :=
  View.canon [⟨Rect.unit (s := S32x100) ![0, 0] S32x100.size inb_S32x100_S32x100_0_0, k2_pay1 (View.ld x0 (Rect.unit (s := S6400x128) ![0, 0] S6400x128.size inb_S6400x128_S6400x128_0_0)) (View.ld x1 (Rect.unit (s := S6400x1) ![0, 0] S6400x1.size inb_S6400x1_S6400x1_0_0)) (View.ld x2 (Rect.unit (s := S5x100) ![0, 0] S5x100.size inb_S5x100_S5x100_0_0)) (View.ld x3 (Rect.unit (s := S1x5) ![0, 0] S1x5.size inb_S1x5_S1x5_0_0)) (View.ld x4 (Rect.unit (s := S100x5) ![0, 0] S100x5.size inb_S100x5_S100x5_0_0)) (View.ld x5 (Rect.unit (s := S1x100) ![0, 0] S1x100.size inb_S1x100_S1x100_0_0))⟩]

/-- It is the payload of the whole blocks. -/
theorem left2_eq (x0 : Vec F S6400x128 .f32) (x1 : Vec F S6400x1 .f32) (x2 : Vec F S5x100 .f32) (x3 : Vec F S1x5 .f32) (x4 : Vec F S100x5 .f32) (x5 : Vec F S1x100 .f32) : left2 x0 x1 x2 x3 x4 x5 = k2_pay1 x0 x1 x2 x3 x4 x5 := by
  unfold left2
  have h0 : (![0, 0] : Fin 2 → Nat) = fun _ => 0 := by decide
  rw [View.canon_unit_zero h0]
  rw [View.ld_unit_zero (S := S6400x128) h0]
  rw [View.ld_unit_zero (S := S6400x1) h0]
  rw [View.ld_unit_zero (S := S5x100) h0]
  rw [View.ld_unit_zero (S := S1x5) h0]
  rw [View.ld_unit_zero (S := S100x5) h0]
  rw [View.ld_unit_zero (S := S1x100) h0]

/-- The store covers the buffer. -/
theorem cover2 (p : Vec F S32x100 .f32) (y : S32x100.Idx) :
    ∃ pc ∈ ([⟨Rect.unit (s := S32x100) ![0, 0] S32x100.size inb_S32x100_S32x100_0_0, p⟩] : List (View.Piece (Elt F) S32x100 .f32)), y ∈ pc.1.set :=
  View.cover_of_tiled [⟨Rect.unit (s := S32x100) ![0, 0] S32x100.size inb_S32x100_S32x100_0_0, p⟩] S32x100.size (by rfl) y

/-- One run of the body over its staging buffers: the inputs stay, the output holds `left2`. -/
theorem run2 (c : Dev nD) (i : grid2.Coords) (a0 : Memref sig .tc .vmem S6400x128 .f32) (h0 : a0.IsWhole) (a1 : Memref sig .tc .vmem S6400x1 .f32) (h1 : a1.IsWhole) (a2 : Memref sig .tc .vmem S5x100 .f32) (h2 : a2.IsWhole) (a3 : Memref sig .tc .vmem S1x5 .f32) (h3 : a3.IsWhole) (a4 : Memref sig .tc .vmem S100x5 .f32) (h4 : a4.IsWhole) (a5 : Memref sig .tc .vmem S1x100 .f32) (h5 : a5.IsWhole) (a6 : Memref sig .tc .vmem S32x100 .f32) (h6 : a6.IsWhole)
    (x0 : Vec F S6400x128 .f32) (x1 : Vec F S6400x1 .f32) (x2 : Vec F S5x100 .f32) (x3 : Vec F S1x5 .f32) (x4 : Vec F S100x5 .f32) (x5 : Vec F S1x100 .f32) (K : PUnit → sProp 𝕄) :
    (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (left2 x0 x1 x2 x3 x4 x5)) -∗ K ⟨⟩)) : sProp 𝕄)
      ⊢ wp frame (wpE (defs₀ (F := F)) 𝒱₀ c none) Set.univ (cc2_body i a0 h0 a1 h1 a2 h2 a3 h3 a4 h4 a5 h5 a6 h6) K := by
  rw [cc2_body_eq_skeleton]; unfold cc2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2 _)

/-- The region's proof data: arrays at the contents found, blocks as read, the output's block computed from them. -/
def dat2 (c : Dev nD) : Dat τ (Elt F) (HIx 1) ℕ UU ℕ cfg2 c where
  A w := V c (Proc.devRef .tc (arrRef spec2 w))
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => left2 (iblk2 V c 0 t) (iblk2 V c 1 t) (iblk2 V c 2 t) (iblk2 V c 3 t) (iblk2 V c 4 t) (iblk2 V c 5 t)
  Φ _ := Pipeline.scopedRest spec2 c
  q _ := fullShare
  owed _ := 0

/-- What the proof data say that each window holds after the body: input window 0 its block, -/
theorem after2_0 (c : Dev nD) (t : Fin cfg2.N) : (dat2 V c).after 0 t = iblk2 V c 0 t := by dsimp only [dat2]
/-- window 1 its, -/
theorem after2_1 (c : Dev nD) (t : Fin cfg2.N) : (dat2 V c).after 1 t = iblk2 V c 1 t := by dsimp only [dat2]
/-- window 2 its, -/
theorem after2_2 (c : Dev nD) (t : Fin cfg2.N) : (dat2 V c).after 2 t = iblk2 V c 2 t := by dsimp only [dat2]
/-- window 3 its, -/
theorem after2_3 (c : Dev nD) (t : Fin cfg2.N) : (dat2 V c).after 3 t = iblk2 V c 3 t := by dsimp only [dat2]
/-- window 4 its, -/
theorem after2_4 (c : Dev nD) (t : Fin cfg2.N) : (dat2 V c).after 4 t = iblk2 V c 4 t := by dsimp only [dat2]
/-- window 5 its, -/
theorem after2_5 (c : Dev nD) (t : Fin cfg2.N) : (dat2 V c).after 5 t = iblk2 V c 5 t := by dsimp only [dat2]
/-- the output window what the store leaves. -/
theorem after2_6 (c : Dev nD) (t : Fin cfg2.N) : (dat2 V c).after 6 t = left2 (iblk2 V c 0 t) (iblk2 V c 1 t) (iblk2 V c 2 t) (iblk2 V c 3 t) (iblk2 V c 4 t) (iblk2 V c 5 t) := by dsimp only [dat2]
/-- Input window 0 holds its block whenever the body runs. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rfl) t d).trans
    (by unfold Dat.fetched Dat.blockOf iblk2; rfl)
/-- Input window 1 holds its block whenever the body runs. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rfl) t d).trans
    (by unfold Dat.fetched Dat.blockOf iblk2; rfl)
/-- Input window 2 holds its block whenever the body runs. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rfl) t d).trans
    (by unfold Dat.fetched Dat.blockOf iblk2; rfl)
/-- Input window 3 holds its block whenever the body runs. -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rfl) t d).trans
    (by unfold Dat.fetched Dat.blockOf iblk2; rfl)
/-- Input window 4 holds its block whenever the body runs. -/
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rfl) t d).trans
    (by unfold Dat.fetched Dat.blockOf iblk2; rfl)
/-- Input window 5 holds its block whenever the body runs. -/
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rfl) t d).trans
    (by unfold Dat.fetched Dat.blockOf iblk2; rfl)

/-- What the body is handed at point `t`, and what it leaves. -/
def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))
/-- What it leaves. -/
def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at point `t` goes from the one to the other. -/
theorem soundBody2 (c : Dev nD) (t : Fin cfg2.N) :
    bodyPre2 V c t ⊢ wp frame (wpE (defs₀ (F := F)) 𝒱₀ c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run2 c (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region. -/
theorem obl2 (c : Dev nD) : BodyObligation (dat2 V c) (defs₀ (F := F)) 𝒱₀ none Set.univ := fun t => by
  rw [bigSep_W2, bigSep_W2]
  exact soundBody2 V c t

end Body2

end Cert.KernelIdeal.Own

end
-- ==== Proof.IRegion.lean ====
/-
  The two TensorCore regions, each entered from and left with all of the program's unscoped buffers.
-/
module

public import proofs.«01_k».proof.Proof.IBody

@[expose] public section

set_option maxRecDepth 16384

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf arrRef)

variable {F : FTy → Type} [FloatOps F]

local notation "𝕄" => MT nD τ sig (HIx 1) (Elt F) ℕ UU ℕ

/-! ## The buffers a TensorCore's program reads and writes -/

/-- The TensorCore's references the whole program holds, as device buffers. -/
def ucRefs : Finset (DevRef τ sig) := (StableHlo.tcRefs τ sig).filter fun b => ¬ b.isScoped

omit [FloatOps F] in
/-- What the launch gives of them, as one set held. -/
theorem unscoped_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- An unscoped reference is in the set. -/
theorem mem_ucRefs (b : Ref sig .tc) (h : b.isScoped = false) : Proc.devRef .tc b ∈ ucRefs :=
  Finset.mem_filter.mpr ⟨Finset.mem_map.mpr ⟨b, Finset.mem_univ _, rfl⟩, by rw [show (Proc.devRef .tc b : DevRef τ sig).isScoped = b.isScoped from rfl, h]; decide⟩

/-- A host operation over TensorCore references stays inside the set. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The first region's arrays are unscoped buffers, -/
theorem arr_unscoped1 : Pipeline.arrRefs (τ := τ) spec1 ⊆ ucRefs := by
  intro b hb
  obtain ⟨r, hr, rfl⟩ := Finset.mem_map.mp hb
  obtain ⟨w, -, rfl⟩ := Finset.mem_image.mp hr
  exact mem_ucRefs _ (by revert w; decide)
/-- and so are the second's; -/
theorem arr_unscoped2 : Pipeline.arrRefs (τ := τ) spec2 ⊆ ucRefs := by
  intro b hb
  obtain ⟨r, hr, rfl⟩ := Finset.mem_map.mp hb
  obtain ⟨w, -, rfl⟩ := Finset.mem_image.mp hr
  exact mem_ucRefs _ (by revert w; decide)

/-- the same of the regions as the launch lists them: the first, -/
theorem arr_unscoped1' : Pipeline.arrRefs (τ := τ) (pcfgs (F := F) 0).spec ⊆ ucRefs := arr_unscoped1
/-- the second. -/
theorem arr_unscoped2' : Pipeline.arrRefs (τ := τ) (pcfgs (F := F) 1).spec ⊆ ucRefs := arr_unscoped2

/-! ## The two regions -/

variable (V : Dev nD → Valuation τ sig (Elt F))

/-- Both pipelines' proof data, over one entry contents. -/
def pdats : (p : Fin 2) → (c : Dev nD) → Dat τ (Elt F) (HIx 1) ℕ UU ℕ (Pipeline.pin (pcfgs (F := F)) adm p) c := fun p =>
  match p with
  | ⟨0, _⟩ => dat1 V
  | ⟨1, _⟩ => dat2 V

/-- The staging transfers wait at level zero; a TensorCore past its call owes nothing. -/
theorem cut (p : Fin 2) : Pipeline.LevelCut (pcfgs (F := F)) adm (none : HIx 1) (K (F := F)).L (K (F := F)).lev p (fun _ => (0 : CellTallies nD τ sig (HIx 1))) fun _ => 0 where
  hι _ _ _ := Finset.mem_univ _
  hιb _ _ _ := le_refl _
  hD _ _ _ h := absurd h (lt_irrefl _)

/-- The invariant of region 0 is the scoped storage its windows do not stage. -/
theorem pdats_rest1 (c : Dev nD) (t) : (pdats V 0 c).Φ t = Pipeline.scopedRest cfg1.spec c := rfl
/-- The scoped buffers that the first region's windows leave over, -/
theorem rest_spec1 (c : Dev nD) : (Pipeline.scopedRest (Ix := HIx 1) (Name := ℕ) (U := UU) (Lvl := ℕ) (Val := Elt F) (τ := τ) cfg1.spec c)
    = Pipeline.scopedRest (Pipeline.pin (pcfgs (F := F)) adm 0).spec c := rfl
/-- which its proof data keep from point to point. -/
theorem pdats_Φ1 (c : Dev nD) (t) : (pdats V 0 c).Φ t = Pipeline.scopedRest (Pipeline.pin (pcfgs (F := F)) adm 0).spec c :=
  (pdats_rest1 V c t).trans (rest_spec1 c)

/-- The invariant of region 1 is the scoped storage its windows do not stage. -/
theorem pdats_rest2 (c : Dev nD) (t) : (pdats V 1 c).Φ t = Pipeline.scopedRest cfg2.spec c := rfl
/-- The scoped buffers that the second region's windows leave over, -/
theorem rest_spec2 (c : Dev nD) : (Pipeline.scopedRest (Ix := HIx 1) (Name := ℕ) (U := UU) (Lvl := ℕ) (Val := Elt F) (τ := τ) cfg2.spec c)
    = Pipeline.scopedRest (Pipeline.pin (pcfgs (F := F)) adm 1).spec c := rfl
/-- which its proof data keep from point to point. -/
theorem pdats_Φ2 (c : Dev nD) (t) : (pdats V 1 c).Φ t = Pipeline.scopedRest (Pipeline.pin (pcfgs (F := F)) adm 1).spec c :=
  (pdats_rest2 V c t).trans (rest_spec2 c)

set_option backward.isDefEq.respectTransparency.types false in
/-- The counting region, over all the unscoped buffers. -/
def reg1 : Pipeline.RegionSeg (pcfgs (F := F)) adm (pdats V) none defs₀ 𝒱₀ (K (F := F)).L (K (F := F)).lev 0 :=
  Pipeline.RegionSeg.ofHeldIn (pcfgs (F := F)) adm (pdats V) none defs₀ 𝒱₀ (K (F := F)).L (K (F := F)).lev 0 (fun _ => 0) ucRefs (fun _ => iprop(emp)) (fun _ => iprop(emp))
    launch1.toP rfl (fun c => (obl1 V c).loose) (fun _ _ => rfl) (fun _ => rfl) (fun c w => (dat1 V c).share_full (fun _ => rfl) w)
    (fun c => by rw [pdats_Φ1]; exact sep_elim_left) (fun c => by rw [pdats_Φ1]; exact sep_emp_intro) (fun _ => 0) (cut 0) (fun _ => iprop(emp)) V (fun _ _ => rfl)

set_option backward.isDefEq.respectTransparency.types false in
/-- The combining region, over all the unscoped buffers. -/
def reg2 : Pipeline.RegionSeg (pcfgs (F := F)) adm (pdats V) none defs₀ 𝒱₀ (K (F := F)).L (K (F := F)).lev 1 :=
  Pipeline.RegionSeg.ofHeldIn (pcfgs (F := F)) adm (pdats V) none defs₀ 𝒱₀ (K (F := F)).L (K (F := F)).lev 1 (fun _ => 0) ucRefs (fun _ => iprop(emp)) (fun _ => iprop(emp))
    launch2.toP rfl (fun c => (obl2 V c).loose) (fun _ _ => rfl) (fun _ => rfl) (fun c w => (dat2 V c).share_full (fun _ => rfl) w)
    (fun c => by rw [pdats_Φ2]; exact sep_elim_left) (fun c => by rw [pdats_Φ2]; exact sep_emp_intro) (fun _ => 0) (cut 1) (fun _ => iprop(emp)) V (fun _ _ => rfl)

set_option backward.isDefEq.respectTransparency.types false in
/-- What region 0 is entered from. -/
theorem reg1_pre (c : Dev nD) : (iprop(StableHlo.held (c.tc : Thread nD τ) ucRefs (V c)
      ∗ ((∃ Wd, owes (c : Thread nD τ) (0 : CellTallies nD τ sig (HIx 1)) Wd) ∗ emp ∗ emp)) : sProp 𝕄) ⊢ (reg1 V).pre c := by
  unfold reg1
  exact Pipeline.RegionSeg.ofHeldIn_pre (pcs := pcfgs (F := F)) (a := adm) (pdats := pdats V) (D := fun _ => 0) (X := fun _ => iprop(emp)) (Y := fun _ => iprop(emp)) (R := fun _ => iprop(emp)) (W := V) arr_unscoped1' c

set_option backward.isDefEq.respectTransparency.types false in
/-- What region 0 is left with. -/
theorem reg1_post (c : Dev nD) : ((reg1 V).post c : sProp 𝕄) ⊢ iprop(StableHlo.held (c.tc : Thread nD τ) ucRefs (Pipeline.afterRegion (dat1 V c) (V c))
      ∗ ((∃ Wd, owes (c : Thread nD τ) (0 : CellTallies nD τ sig (HIx 1)) Wd) ∗ emp ∗ emp)) := by
  unfold reg1
  exact Pipeline.RegionSeg.ofHeldIn_post arr_unscoped1' c

set_option backward.isDefEq.respectTransparency.types false in
/-- What region 1 is entered from. -/
theorem reg2_pre (c : Dev nD) : (iprop(StableHlo.held (c.tc : Thread nD τ) ucRefs (V c)
      ∗ ((∃ Wd, owes (c : Thread nD τ) (0 : CellTallies nD τ sig (HIx 1)) Wd) ∗ emp ∗ emp)) : sProp 𝕄) ⊢ (reg2 V).pre c := by
  unfold reg2
  exact Pipeline.RegionSeg.ofHeldIn_pre (pcs := pcfgs (F := F)) (a := adm) (pdats := pdats V) (D := fun _ => 0) (X := fun _ => iprop(emp)) (Y := fun _ => iprop(emp)) (R := fun _ => iprop(emp)) (W := V) arr_unscoped2' c

set_option backward.isDefEq.respectTransparency.types false in
/-- What region 1 is left with. -/
theorem reg2_post (c : Dev nD) : ((reg2 V).post c : sProp 𝕄) ⊢ iprop(StableHlo.held (c.tc : Thread nD τ) ucRefs (Pipeline.afterRegion (dat2 V c) (V c))
      ∗ ((∃ Wd, owes (c : Thread nD τ) (0 : CellTallies nD τ sig (HIx 1)) Wd) ∗ emp ∗ emp)) := by
  unfold reg2
  exact Pipeline.RegionSeg.ofHeldIn_post arr_unscoped2' c

/-- A region's statement is the pipeline program's own, lifted. -/
theorem entry_lift (p : Fin 2) :
    (Prog.lift (.customCall (SparseCore.inner (Pipeline.entry p)) ()) : Prog (TpuEff nD τ sig (Elt F) (SparseCore.Sig (ΛP (F := F)) 1) .tc) PUnit)
      = SparseCore.liftProg (.op (.customCall (Pipeline.entry p) ()) .ret) := rfl

instance : (EP (F := F)).LandsIn (upEmb : UEmb _ 𝕄) := by unfold EP; infer_instance

/-- Before or after a region: the boundary, the unscoped buffers at `W`, nothing owed. -/
def between (c : Dev nD) (W : Valuation τ sig (Elt F)) : sProp 𝕄 :=
  iprop(boundary (c : Thread nD τ) ∗ StableHlo.held (c : Thread nD τ) ucRefs W ∗ ∃ Wd, owes (c : Thread nD τ) (0 : CellTallies nD τ sig (HIx 1)) Wd)

/-- The counting region runs: its output window's array is rewritten, the rest stays. -/
theorem reg1_run [∀ e, Nonempty (Elt F e)] (c : Dev nD) :
    (iprop(levAts (K (F := F)).L (K (F := F)).lev ∗ between c (V c)
        ∗ Pipeline.cellsGhost (Pipeline.pin (pcfgs (F := F)) adm) EP 0 c ∗ Pipeline.toksInit (Pipeline.pin (pcfgs (F := F)) adm) EP 0 c) : sProp 𝕄)
      ⊢ wp frame (wpE ((K (F := F)).defs (D (F := F))) 𝒱 (T c) none) Set.univ
          (Prog.lift (.customCall (SparseCore.inner (Pipeline.entry 0)) ()))
          fun _ => between c (Pipeline.afterRegion (dat1 V c) (V c)) := by
  rw [entry_lift]
  refine BI.Entails.trans ?_ ((K (F := F)).wp_liftProg (D (F := F)) 𝒱 _ _ none _ _)
  refine BI.Entails.trans ?_ (Pipeline.RegionSeg.wp (pcfgs (F := F)) adm (pdats V) none cellOf_inj EP defs₀ 𝒱₀ (K (F := F)).L (K (F := F)).lev (reg1 V) c none
    (fun _ h => nomatch h) .ret _)
  change (_ : sProp 𝕄) ⊢ _
  unfold between
  iintro ⟨Hlev, ⟨Hb, Hh, HO⟩, Hc, Ht⟩
  isplitr
  · iintro ⟨Hb, Hpost⟩
    rw [wp_ret]
    ihave Hp := (reg1_post V c) $$ Hpost
    icases Hp with ⟨Hh, HO, -, -⟩
    imodintro
    isplitl [Hb]; · iexact Hb
    isplitl [Hh]; · iexact Hh
    iexact HO
  isplitl [Hb]; · iexact Hb
  isplitl [Hh HO]
  · iapply (reg1_pre V c)
    isplitl [Hh]; · iexact Hh
    isplitl [HO]; · iexact HO
    isplitr <;> iempintro
  isplitl [Hlev]; · iexact Hlev
  isplitl [Hc]; · iexact Hc
  iexact Ht

/-- The combining region runs: its output window's array is rewritten, the rest stays. -/
theorem reg2_run [∀ e, Nonempty (Elt F e)] (c : Dev nD) :
    (iprop(levAts (K (F := F)).L (K (F := F)).lev ∗ between c (V c)
        ∗ Pipeline.cellsGhost (Pipeline.pin (pcfgs (F := F)) adm) EP 1 c ∗ Pipeline.toksInit (Pipeline.pin (pcfgs (F := F)) adm) EP 1 c) : sProp 𝕄)
      ⊢ wp frame (wpE ((K (F := F)).defs (D (F := F))) 𝒱 (T c) none) Set.univ
          (Prog.lift (.customCall (SparseCore.inner (Pipeline.entry 1)) ()))
          fun _ => between c (Pipeline.afterRegion (dat2 V c) (V c)) := by
  rw [entry_lift]
  refine BI.Entails.trans ?_ ((K (F := F)).wp_liftProg (D (F := F)) 𝒱 _ _ none _ _)
  refine BI.Entails.trans ?_ (Pipeline.RegionSeg.wp (pcfgs (F := F)) adm (pdats V) none cellOf_inj EP defs₀ 𝒱₀ (K (F := F)).L (K (F := F)).lev (reg2 V) c none
    (fun _ h => nomatch h) .ret _)
  change (_ : sProp 𝕄) ⊢ _
  unfold between
  iintro ⟨Hlev, ⟨Hb, Hh, HO⟩, Hc, Ht⟩
  isplitr
  · iintro ⟨Hb, Hpost⟩
    rw [wp_ret]
    ihave Hp := (reg2_post V c) $$ Hpost
    icases Hp with ⟨Hh, HO, -, -⟩
    imodintro
    isplitl [Hb]; · iexact Hb
    isplitl [Hh]; · iexact Hh
    iexact HO
  isplitl [Hb]; · iexact Hb
  isplitl [Hh HO]
  · iapply (reg2_pre V c)
    isplitl [Hh]; · iexact Hh
    isplitl [HO]; · iexact HO
    isplitr <;> iempintro
  isplitl [Hlev]; · iexact Hlev
  isplitl [Hc]; · iexact Hc
  iexact Ht

end Cert.KernelIdeal.Own

end
-- ==== Proof.ISplit.lean ====
/-
  The SparseCore call's three buffers, whole, dealt to the thirty-two subcores and taken back.
-/
module

public import proofs.«01_k».proof.Proof.ILaunch
public import Idealize.ShloMosaic.Lib.Pointwise.Index

@[expose] public section

set_option maxRecDepth 16384

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type}

local notation "𝕄" => MT nD τ sig (HIx 1) (Elt F) ℕ UU ℕ

/-! ## What the whole call holds is what its thirty-two subcores hold -/

/-- The subcore's loop makes ten trips. -/
theorem trips_ten : k0_t1_loop.trips = 10 := by decide

/-- The thirty-two subcores, by SparseCore and subcore. -/
def widEquiv : Fin 2 × Fin 16 ≃ Fin 32 where
  toFun p := wid (co p.1 p.2)
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

/-- A whole buffer is its thirty-two shares. -/
theorem shares32 (ℓ : Loc nD τ sig) (f : Buf (Elt F) ℓ) :
    (ℓ ↦{fullShare} f : sProp 𝕄) = bigSep Finset.univ fun c : Fin 2 => bigSep Finset.univ fun i : Fin 16 => ℓ ↦{part32 (wid (co c i))} f := by
  rw [pointsTo_piecesOf Finset.univ f (o := 32) (by decide) fullShare,
    ← bigSep_univ_prod (fun p : Fin 2 × Fin 16 => (ℓ ↦{part32 (wid (co p.1 p.2))} f : sProp 𝕄))]
  exact BI.bigSep_univ_equiv widEquiv fun w : Fin 32 => (ℓ ↦{part32 w} f : sProp 𝕄)

/-- A block's name: its SparseCore and subcore, its trip and its place in the trip. -/
abbrev BlkIx : Type := (Fin 2 × Fin 16) × (Fin k0_t1_loop.trips × Fin 5)

/-- The elements of a block. -/
def blkSet (b : BlkIx) : Finset S204800x128.Idx := (oBlk (co b.1.1 b.1.2) b.2.1 b.2.2).view.set

/-- A block's number among the result's 1600. -/
def blkNo (b : BlkIx) : ℕ := 100 * b.1.2.val + 50 * b.1.1.val + 5 * b.2.1.val + b.2.2.val

/-- A block is the 128 rows after its number. -/
theorem mem_blkSet (b : BlkIx) (y : S204800x128.Idx) : y ∈ blkSet b ↔ (y 0).val / 128 = blkNo b := by
  obtain ⟨⟨c, i⟩, t, r⟩ := b
  have e0 := oBlk_emb0 (co c i) t r
  have e1 := oBlk_emb1 (co c i) t r
  have hc : ((co c i) 0).val = c.val := rfl
  have hi : ((co c i) 1).val = i.val := rfl
  unfold blkSet blkNo
  constructor
  · intro h
    obtain ⟨x, -, rfl⟩ := Finset.mem_map.mp h
    have hx : (x 0).val < 128 := (x 0).isLt
    have h0 := e0 x
    rw [hc, hi] at h0
    refine (congrArg (· / 128) h0).trans ?_
    dsimp only
    omega
  · intro h
    dsimp only at h
    refine Finset.mem_map.mpr ⟨ix2 ⟨(y 0).val % 128, by omega⟩ ⟨(y 1).val, (y 1).isLt⟩, Finset.mem_univ _, ?_⟩
    refine (eq_ix2 _).trans (Eq.trans ?_ (eq_ix2 y).symm)
    have h0 := e0 (ix2 ⟨(y 0).val % 128, by omega⟩ ⟨(y 1).val, (y 1).isLt⟩)
    have h1 := e1 (ix2 ⟨(y 0).val % 128, by omega⟩ ⟨(y 1).val, (y 1).isLt⟩)
    rw [hc, hi] at h0
    have h0' : ((oBlk (co c i) t r).view.emb (ix2 ⟨(y 0).val % 128, by omega⟩ ⟨(y 1).val, (y 1).isLt⟩) 0).val = (y 0).val := by
      refine h0.trans ?_
      show 12800 * i.val + 6400 * c.val + 640 * t.val + 128 * r.val + (y 0).val % 128 = (y 0).val
      omega
    exact congrArg₂ ix2 (Fin.ext h0') (Fin.ext h1)

/-- Two blocks of one number are one. -/
theorem blkNo_inj (b b' : BlkIx) (h : blkNo b = blkNo b') : b = b' := by
  obtain ⟨⟨c, i⟩, t, r⟩ := b
  obtain ⟨⟨c', i'⟩, t', r'⟩ := b'
  have ht : t.val < 10 := trips_ten ▸ t.isLt
  have ht' : t'.val < 10 := trips_ten ▸ t'.isLt
  unfold blkNo at h
  dsimp only at h
  refine Prod.ext (Prod.ext (Fin.ext ?_) (Fin.ext ?_)) (Prod.ext (Fin.ext ?_) (Fin.ext ?_)) <;> dsimp only <;> omega

/-- Different blocks share no element. -/
theorem blk_disj : ∀ b ∈ (Finset.univ : Finset BlkIx), ∀ b' ∈ (Finset.univ : Finset BlkIx), b ≠ b' → Disjoint (blkSet b) (blkSet b') :=
  fun b _ b' _ hne => Finset.disjoint_left.mpr fun y hy hy' => hne (blkNo_inj b b' (((mem_blkSet b y).mp hy).symm.trans ((mem_blkSet b' y).mp hy')))

/-- Every row is in a block. -/
theorem blk_cover : (Finset.univ : Finset BlkIx).biUnion blkSet = Finset.univ := by
  refine Finset.eq_univ_iff_forall.mpr fun y => Finset.mem_biUnion.mpr ?_
  have hy : (y 0).val < 204800 := (y 0).isLt
  refine ⟨((⟨(y 0).val / 6400 % 2, by omega⟩, ⟨(y 0).val / 12800, by omega⟩),
    (⟨(y 0).val / 640 % 10, by rw [trips_ten]; omega⟩, ⟨(y 0).val / 128 % 5, by omega⟩)), Finset.mem_univ _, (mem_blkSet _ y).mpr ?_⟩
  unfold blkNo
  dsimp only
  omega

/-- The whole result is its 1600 blocks. -/
theorem out_blocks (d : Dev nD) (f : S204800x128.Idx → F .f32) :
    (oLoc d ↦{fullShare} (f : Buf (Elt F) (oLoc d)) : sProp 𝕄) = bigSep Finset.univ fun c : Fin 2 => bigSep Finset.univ fun i : Fin 16 =>
      bigSep Finset.univ fun t : Fin k0_t1_loop.trips => tripBlks (F := F) d (co c i) t f := by
  have h : (oLoc d ↦{fullShare} (f : Buf (Elt F) (oLoc d)) : sProp 𝕄)
      = bigSep (Finset.univ : Finset BlkIx) fun b => oLoc d ↦[blkSet b]{fullShare} (f : Buf (Elt F) (oLoc d)) := by
    rw [← pointsTo_biUnion (ℓ := oLoc d) (Finset.univ : Finset BlkIx) blkSet blk_disj, blk_cover]; try rfl
  refine h.trans ?_
  rw [bigSep_univ_prod, bigSep_univ_prod]
  refine bigSep_congr fun c _ => bigSep_congr fun i _ => ?_
  rw [bigSep_univ_prod]
  refine bigSep_congr fun t _ => ?_
  rw [bigSep_five]
  rfl

/-- The three buffers of the call, whole, are every subcore's holdings. -/
theorem call_split (d : Dev nD) (ft : S100000x128.Idx → F .f32) (ix : S204800.Idx → BitVec 32) (fo : S204800x128.Idx → F .f32) :
    (iprop((tLoc d ↦{fullShare} (ft : Buf (Elt F) (tLoc d))) ∗ (xLoc d ↦{fullShare} (ix : Buf (Elt F) (xLoc d))) ∗ (oLoc d ↦{fullShare} (fo : Buf (Elt F) (oLoc d)))) : sProp 𝕄)
      = bigSep Finset.univ fun c : Fin 2 => bigSep Finset.univ fun i : Fin 16 => tileRes (F := F) d (co c i) ft ix fo := by
  rw [shares32, shares32, out_blocks]
  unfold tileRes
  simp only [bigSep_sep']

end Cert.KernelIdeal.Own

end
-- ==== Proof.IMain.lean ====
/-
  The program's run: @main on the TensorCore from the launch to the end, and the launch itself.
-/
module

public import proofs.«01_k».proof.Proof.IRegion
public import proofs.«01_k».proof.Proof.ISplit

@[expose] public section

set_option maxRecDepth 16384

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf arrRef)

variable {F : FTy → Type} [FloatOps F]

local notation "𝕄" => MT nD τ sig (HIx 1) (Elt F) ℕ UU ℕ

/-! ## @main, and the contents of its buffers along it -/

/-- The host operations before the SparseCore call: the padded table and the flat list of indices. -/
def opsA : List (HloOp τ sig (Elt F)) :=
  [(StableHlo.unary main_arg2 main_v0 (broadcastInDim S100000x1 ![0] bcast_S100000_S100000x1_0 : (⟨S100000, .f32⟩ : BufTy).Contents (Elt F) → (⟨S100000x1, .f32⟩ : BufTy).Contents (Elt F))),
    (StableHlo.nullary main_cst (constant S_ .f32 0x00000000#32)),
    (StableHlo.unary main_cst main_v1 (broadcastInDim S100000x27 ![] bcast_S_S100000x27 : (⟨S_, .f32⟩ : BufTy).Contents (Elt F) → (⟨S100000x27, .f32⟩ : BufTy).Contents (Elt F))),
    (StableHlo.nary ![main_arg1, main_v0, main_v1] main_v2 (fun u => (concatenate S100000x128 1 [⟨S100000x100, (u 0 : (⟨S100000x100, .f32⟩ : BufTy).Contents (Elt F))⟩, ⟨S100000x1, (u 1 : (⟨S100000x1, .f32⟩ : BufTy).Contents (Elt F))⟩, ⟨S100000x27, (u 2 : (⟨S100000x27, .f32⟩ : BufTy).Contents (Elt F))⟩] concatenates_S100000x100_S100000x1_S100000x27_S100000x128_d1 : (⟨S100000x128, .f32⟩ : BufTy).Contents (Elt F)))),
    (StableHlo.reshape main_arg0 main_v3 (rfl : (.i32 : EltTy) = .i32) shapeCasts_S1024x200_S204800)]

/-- The host operations between the two TensorCore regions. -/
def opsB : List (HloOp τ sig (Elt F)) :=
  [(StableHlo.reshape main_arg4 main_v6 (rfl : (.f32 : EltTy) = .f32) shapeCasts_S5_S1x5),
    (StableHlo.reshape main_arg6 main_v7 (rfl : (.f32 : EltTy) = .f32) shapeCasts_S100_S1x100)]

/-- @main, its host operations in two lines. -/
theorem main_eq (d : Dev nD) : main (F := F) d = StableHlo.seqK opsA (do
    sc.run d 0
    Prog.lift (.customCall (SparseCore.inner (Pipeline.entry 0)) ())
    StableHlo.seqK opsB (do
      Prog.lift (.customCall (SparseCore.inner (Pipeline.entry 1)) ())
      pure ⟨⟩)) := rfl

/-- The first host operations touch unscoped buffers only, -/
theorem opsA_sub : ∀ op ∈ (opsA (F := F)), op.bufs ⊆ ucRefs := fun op h => sub_ucRefs op (by
  revert op
  refine List.forall_iff_forall_mem.mp ?_
  simp only [opsA, List.Forall, StableHlo.unary_bufs_sub, StableHlo.nullary_bufs_sub, StableHlo.nary_bufs_sub, StableHlo.reshape_bufs_sub, and_self])
/-- and so do the second. -/
theorem opsB_sub : ∀ op ∈ (opsB (F := F)), op.bufs ⊆ ucRefs := fun op h => sub_ucRefs op (by
  revert op
  refine List.forall_iff_forall_mem.mp ?_
  simp only [opsB, List.Forall, StableHlo.reshape_bufs_sub, and_self])
/-- The first draw no new contents, -/
theorem opsA_fresh : ∀ op ∈ (opsA (F := F)), op.fresh = ∅ := by
  refine List.forall_iff_forall_mem.mp ?_
  simp only [opsA, List.Forall]; exact ⟨rfl, rfl, rfl, rfl, rfl⟩
/-- and neither do the second. -/
theorem opsB_fresh : ∀ op ∈ (opsB (F := F)), op.fresh = ∅ := by
  refine List.forall_iff_forall_mem.mp ?_
  simp only [opsB, List.Forall]; exact ⟨rfl, rfl⟩

/-- A TensorCore reference as a device buffer. -/
abbrev dr (b : Ref sig .tc) : DevRef τ sig := Proc.devRef .tc b

variable (m : (ℓ : Loc nD τ sig) → Buf (Elt F) ℓ) (ρ : Dev nD → PrngReg)

/-- At launch; -/
def V0 (d : Dev nD) : Valuation τ sig (Elt F) := fun b => m (d, b)
/-- after the first host operations; -/
def V1 (d : Dev nD) : Valuation τ sig (Elt F) := StableHlo.after opsA (V0 m d)
/-- after the SparseCore call: the rows gathered; -/
def V2 (d : Dev nD) : Valuation τ sig (Elt F) := Function.update (V1 m d) (dr main_v4) (gath (V1 m d (dr main_v2)) (V1 m d (dr main_v3)))
/-- after the counting region; -/
def V3 (d : Dev nD) : Valuation τ sig (Elt F) := Pipeline.afterRegion (dat1 (V2 m) d) (V2 m d)
/-- after the second host operations; -/
def V4 (d : Dev nD) : Valuation τ sig (Elt F) := StableHlo.after opsB (V3 m d)
/-- at the end. -/
def V5 (d : Dev nD) : Valuation τ sig (Elt F) := Pipeline.afterRegion (dat2 (V4 m) d) (V4 m d)

/-- The condition on the launch memory: every index is a row of the table. -/
def InVocab : Prop := ∀ (d : Dev nD) (j : S1024x200.Idx), ((m (d, dr main_arg0) : S1024x200.Idx → BitVec 32) j).toNat < 100000

/-- The flat list of indices is the index array in row-major order. -/
theorem V1_v3 (d : Dev nD) : V1 m d (dr main_v3) = shapeCast S204800 (m (d, dr main_arg0) : S1024x200.Idx → BitVec 32) shapeCasts_S1024x200_S204800 := by
  unfold V1 opsA
  after_results
  rfl

/-- What the call finds. -/
def given (h : InVocab m) : Given F where
  tb d := V1 m d (dr main_v2)
  ix d := V1 m d (dr main_v3)
  fo d := V1 m d (dr main_v4)
  hix d j := by
    rw [V1_v3]
    exact h d _

/-! ## The SparseCore call's buffers among the rest -/

/-- The three buffers of the call. -/
def callRefs : Finset (DevRef τ sig) := {dr main_v2, dr main_v3, dr main_v4}

/-- The call's buffers are unscoped. -/
theorem callRefs_sub : callRefs ⊆ ucRefs := by
  intro b hb
  simp only [callRefs, Finset.mem_insert, Finset.mem_singleton] at hb
  rcases hb with rfl | rfl | rfl <;> exact mem_ucRefs _ (by decide)

omit [FloatOps F] in
/-- They, held, are three points-to facts. -/
theorem call_held (d : Dev nD) (W : Valuation τ sig (Elt F)) :
    (StableHlo.held (d.tc : Thread nD τ) callRefs W : sProp 𝕄)
      = iprop((tLoc d ↦{fullShare} W (dr main_v2)) ∗ (xLoc d ↦{fullShare} W (dr main_v3)) ∗ (oLoc d ↦{fullShare} W (dr main_v4))) := by
  unfold StableHlo.held callRefs
  rw [SparseCore.bigSep_insert' (by decide), SparseCore.bigSep_insert' (by decide), bigSep_singleton]

attribute [local irreducible] tileRes gath

/-- What all the subcores are given is the three buffers whole; -/
theorem st_all (h : InVocab m) (d : Dev nD) :
    (bigSep Finset.univ fun c : Fin ((K (F := F)).nCore 0) => (Py (given m h)).st 0 d c)
      = (StableHlo.held (d.tc : Thread nD τ) callRefs (V1 m d) : sProp 𝕄) := by
  rw [call_held]
  exact (call_split d _ _ _).symm
/-- so is what they give back. -/
theorem dn_all (h : InVocab m) (d : Dev nD) :
    (bigSep Finset.univ fun c : Fin ((K (F := F)).nCore 0) => (Py (given m h)).dn 0 d c)
      = (StableHlo.held (d.tc : Thread nD τ) callRefs (V2 m d) : sProp 𝕄) := by
  rw [call_held]
  unfold V2
  rw [Function.update_self, Function.update_of_ne (by decide), Function.update_of_ne (by decide)]
  exact (call_split d _ _ _).symm

/-- The rest is not touched by the call. -/
theorem rest_same (d : Dev nD) : (StableHlo.held (d.tc : Thread nD τ) (ucRefs \ callRefs) (V2 m d) : sProp 𝕄)
    = StableHlo.held (d.tc : Thread nD τ) (ucRefs \ callRefs) (V1 m d) :=
  StableHlo.held_congr _ fun b hb => by
    unfold V2
    refine Function.update_of_ne (fun e => (Finset.mem_sdiff.mp hb).2 ?_) _ _
    rw [e]; unfold callRefs
    exact Finset.mem_insert_of_mem (Finset.mem_insert_of_mem (Finset.mem_singleton_self _))

/-! ## The TensorCore's program -/

/-- What the TensorCore holds at the end. -/
def FIN (d : Dev nD) : sProp 𝕄 := StableHlo.held (d.tc : Thread nD τ) ucRefs (V5 m d)

/-- Whatever a TensorCore has waited on is within the bound the handshakes keep, once the only call is over. -/
theorem below_all (d : Dev nD) (W : Waits sig (HIx 1)) : (K (F := F)).WBelow (T d) W (8 * 1) := by
  intro p _
  obtain ⟨s, o⟩ := p
  match o with
  | none => exact Nat.zero_le _
  | some q =>
    show 8 * q.val + 6 + 1 ≤ 8
    have := q.isLt
    omega

/-- The TensorCore's state after the call, but for what it owes. -/
def after1 (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the call a TensorCore owes nothing. -/
theorem owes_out (d : Dev nD) : ((K (F := F)).tcSt EH d 1 : sProp 𝕄) ⊢ iprop((∃ W, owes (T d) (0 : CellTallies nD τ sig (HIx 1)) W) ∗ after1 d) := by
  unfold SparseCore.Cfg.tcSt after1
  rw [(K (F := F)).Otc_end d (Nat.le_refl 1)]
  change (_ : sProp 𝕄) ⊢ _
  iintro ⟨⟨%W, -, HO⟩, H⟩
  isplitl [HO]
  · iexists W; iexact HO
  iexact H
/-- Nothing owed, and the rest, are the TensorCore's state after the call. -/
theorem owes_in (d : Dev nD) : (iprop((∃ W, owes (T d) (0 : CellTallies nD τ sig (HIx 1)) W) ∗ after1 d) : sProp 𝕄) ⊢ (K (F := F)).tcSt EH d 1 := by
  unfold SparseCore.Cfg.tcSt after1
  rw [(K (F := F)).Otc_end d (Nat.le_refl 1)]
  change (_ : sProp 𝕄) ⊢ _
  iintro ⟨⟨%W, HO⟩, H⟩
  isplitl [HO]
  · iexists W
    isplitr
    · ipureintro; exact below_all d W
    iexact HO
  iexact H

/-- @main on one TensorCore. -/
theorem hmain [∀ e, Nonempty (Elt F e)] (h : InVocab m) (κ : GSem nD τ sig → ℕ) (d : Dev nD) :
    (iprop((K (F := F)).ctx EH (Py (given m h)) κ ∗ (K (F := F)).tcSt EH d 0 ∗ (K (F := F)).tcRes m ρ d ∗ Gh d) : sProp 𝕄)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd Gh
  rw [show unscopedBufs d (fun b => m ((SparseCore.T d).loc b)) = (StableHlo.held (d.tc : Thread nD τ) ucRefs (V0 m d) : sProp 𝕄) from unscoped_held d (V0 m d)]
  rw [main_eq, ← StableHlo.seq_bind_seqK]
  change (_ : sProp 𝕄) ⊢ _
  iintro ⟨#Hctx, Hst, ⟨Hb, Hh, Hts, -⟩, ⟨Hc0, Ht0⟩, ⟨Hc1, Ht1⟩⟩
  iapply (StableHlo.wp_seq 𝒱 none Set.univ d ucRefs _ opsA opsA_sub opsA_fresh (V0 m d)) $$ [Hb Hh]
  · isplitl [Hb]; · iexact Hb
    iexact Hh
  iintro ⟨Hb, Hh⟩
  rw [show StableHlo.after opsA (V0 m d) = V1 m d from rfl]
  ihave Hs := (Entails.of_eq (StableHlo.held_sub_split (d.tc : Thread nD τ) callRefs_sub (V1 m d))) $$ Hh
  icases Hs with ⟨Hcall, Hrest⟩
  rw [wp_bind]
  iapply ((K (F := F)).wp_run (D (F := F)) 𝒱 (EH := EH) (P := Py (given m h)) κ d 0) $$ [Hst Hcall Hrest Hb Hts Hc0 Ht0 Hc1 Ht1]
  isplitr; · iexact Hctx
  isplitl [Hst]; · iexact Hst
  isplitl [Hcall]
  · rw [st_all]
    iexact Hcall
  iintro ⟨Hst, Hdn⟩
  ihave Hcall := (Entails.of_eq (dn_all m h d)) $$ Hdn
  ihave Hrest' := (Entails.of_eq (rest_same m d).symm) $$ Hrest
  ihave Hh := (Entails.of_eq (StableHlo.held_sub_split (d.tc : Thread nD τ) callRefs_sub (V2 m d)).symm) $$ [Hcall Hrest']
  · isplitl [Hcall]; · iexact Hcall
    iexact Hrest'
  ihave Ho := (show ((K (F := F)).tcSt EH d ((0 : Fin 1).val + 1) : sProp 𝕄) ⊢ _ from owes_out d) $$ Hst
  icases Ho with ⟨HO, Ha⟩
  rw [wp_bind]
  ihave Hw := (reg1_run (V2 m) d) $$ [Hb Hh HO Hc0 Ht0]
  · isplitr
    · iapply ((K (F := F)).ctx_levAts κ) $$ Hctx
    isplitl [Hb Hh HO]
    · unfold between
      isplitl [Hb]; · iexact Hb
      isplitl [Hh]; · iexact Hh
      iexact HO
    isplitl [Hc0]; · iexact Hc0
    iexact Ht0
  iapply (wp_wand _ _ _) $$ Hw
  iintro %_ Hbt
  unfold between
  icases Hbt with ⟨Hb, Hh, HO⟩
  rw [← StableHlo.seq_bind_seqK]
  rw [show Pipeline.afterRegion (dat1 (V2 m) d) (V2 m d) = V3 m d from rfl]
  iapply (StableHlo.wp_seq 𝒱 none Set.univ d ucRefs _ opsB opsB_sub opsB_fresh (V3 m d)) $$ [Hb Hh]
  · isplitl [Hb]; · iexact Hb
    iexact Hh
  iintro ⟨Hb, Hh⟩
  rw [wp_bind]
  rw [show StableHlo.after opsB (V3 m d) = V4 m d from rfl]
  ihave Hw := (reg2_run (V4 m) d) $$ [Hb Hh HO Hc1 Ht1]
  · isplitr
    · iapply ((K (F := F)).ctx_levAts κ) $$ Hctx
    isplitl [Hb Hh HO]
    · unfold between
      isplitl [Hb]; · iexact Hb
      isplitl [Hh]; · iexact Hh
      iexact HO
    isplitl [Hc1]; · iexact Hc1
    iexact Ht1
  iapply (wp_wand _ _ _) $$ Hw
  iintro %_ Hbt
  unfold between
  icases Hbt with ⟨Hb, Hh, HO⟩
  rw [show Pipeline.afterRegion (dat2 (V4 m) d) (V4 m d) = V5 m d from rfl]
  rw [wp_pure]
  imodintro
  isplitl [HO Ha]
  · iapply (owes_in d)
    isplitl [HO]; · iexact HO
    iexact Ha
  isplitl [Hh]; · unfold FIN; iexact Hh
  isplitl [Hb]; · iexact Hb
  iexact Hts

/-! ## What the final memory holds -/

/-- Every unscoped buffer of the TensorCore is at its last contents. -/
def fq (d : Dev nD) (s' : Phys nD τ sig (Elt F)) : Prop := ∀ b, b ∈ ucRefs → s'.mem.mem (d, b) = V5 m d b

/-- Where the run ends, the memory is as claimed. -/
theorem hfin (d : Dev nD) (s' : Phys nD τ sig (Elt F)) : iprop(FIN m d ∗ SI s') ⊢ (⌜fq m d s'⌝ : sProp 𝕄) := by
  have one : ∀ b : DevRef τ sig, iprop(FIN m d ∗ SI s') ⊢ (⌜b ∈ ucRefs → s'.mem.mem (d, b) = V5 m d b⌝ : sProp 𝕄) := by
    intro b
    by_cases hb : b ∈ ucRefs
    · unfold FIN StableHlo.held
      refine (sep_mono_left (bigSep_elim hb)).trans ?_
      change (_ : sProp 𝕄) ⊢ _
      iintro ⟨Hp, HSI⟩
      ihave H := (SI_pointsTo_agree (st := s') (ℓ := ((d, b) : Loc nD τ sig)) (I := Finset.univ) (q := fullShare) (f := V5 m d b)) $$ [HSI Hp]
      · isplitl [HSI] <;> iassumption
      icases H with %h1
      ipureintro; exact fun _ => funext fun i => h1 i (Finset.mem_univ i)
    · exact BI.pure_intro fun h => absurd h hb
  exact (sProp.forall_intro one).trans pure_forall.2

/-- The program runs to its end: every unscoped buffer of every device at its last contents, every counter zero. -/
theorem run_main [∀ e, Nonempty (Elt F e)] (h : InVocab m) :
    θ_run (defs (F := F)) (threads (F := F)) ⟨m, fun _ => 0, ρ⟩ fun r => (∀ (d : Dev nD) b, b ∈ ucRefs → r.2.mem (d, b) = V5 m d b) ∧ r.2.sem = fun _ => 0 :=
  SparseCore.Cfg.θ_run_sc_quiescent (K := K (F := F)) (D := D (F := F)) (𝒱 := 𝒱) (EH := EH) (P := Py (given m h)) (A := ∅) facts v₀
    (fun q hq => match q with | 0 => nomatch hq)
    (fun q _ => match q with | 0 => tileObl (given m h) facts)
    (fun q _ => match q with | 0 => SparseCore.Cfg.VecSplit.of_plain (vecSplit (given m h)))
    m ρ main Gh (FIN m) u₀ (sep_elim_left.trans (hu₀ (given m h))) (hmain m ρ h) (fq m) (hfin m) _ (fun _ h hz => ⟨h, hz⟩)

end Cert.KernelIdeal.Own

end
-- ==== Proof.IEnd.lean ====
/-
  The program's run as the claims state it: the arguments kept, the precondition read, the result at its value.
-/
module

public import proofs.«01_k».proof.Proof.IMain
public import proofs.«01_k».proof.Pre_in_vocab

@[expose] public section

set_option maxRecDepth 16384

noncomputable section

namespace Cert.KernelIdeal.Own

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf arrRef)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arguments are not touched -/

/-- A buffer no host operation writes, not the gathered rows', and no output of a region's, keeps its contents to the end. -/
theorem V5_keeps (d : Dev nD) (b : Ref sig .tc) (hA : ∀ op ∈ (opsA (F := F)), dr b ∉ op.writes) (hB : ∀ op ∈ (opsB (F := F)), dr b ∉ op.writes) (h4 : dr b ≠ dr main_v4)
    (h1 : ∀ w, arrRef spec1 w = b → (cfg1.win w).isOut = false) (h2 : ∀ w, arrRef spec2 w = b → (cfg2.win w).isOut = false) :
    V5 m d (dr b) = m (d, dr b) := by
  unfold V5
  rw [Pipeline.afterRegion_keeps (dat2 (V4 m) d) (V4 m d) winFacts2.arr_inj (fun _ => rfl) b h2]
  unfold V4
  rw [StableHlo.after_of_forall_not_mem opsB (V3 m d) hB]
  unfold V3
  rw [Pipeline.afterRegion_keeps (dat1 (V2 m) d) (V2 m d) winFacts1.arr_inj (fun _ => rfl) b h1]
  unfold V2
  rw [Function.update_of_ne h4]
  unfold V1
  rw [StableHlo.after_of_forall_not_mem opsA (V0 m d) hA]
  rfl

/-- The buffers the first host operations write, -/
def isA (b : Ref sig .tc) : Bool := b = main_v0 ∨ b = main_cst ∨ b = main_v1 ∨ b = main_v2 ∨ b = main_v3
/-- and the second. -/
def isB (b : Ref sig .tc) : Bool := b = main_v6 ∨ b = main_v7

/-- No host operation of the first line writes a buffer outside its list, -/
theorem opsA_writes (b : Ref sig .tc) (h : isA b = false) : ∀ op ∈ (opsA (F := F)), dr b ∉ op.writes := by
  simp only [isA, decide_eq_false_iff_not, not_or] at h
  obtain ⟨h0, h1, h2, h3, h4⟩ := h
  refine List.forall_iff_forall_mem.mp ?_
  simp only [opsA, List.Forall, StableHlo.unary_writes, StableHlo.nullary_writes, StableHlo.nary_writes, StableHlo.reshape_writes, Finset.mem_singleton]
  exact ⟨StableHlo.devRef_ne_of_ne h0, StableHlo.devRef_ne_of_ne h1, StableHlo.devRef_ne_of_ne h2, StableHlo.devRef_ne_of_ne h3, StableHlo.devRef_ne_of_ne h4⟩
/-- and none of the second. -/
theorem opsB_writes (b : Ref sig .tc) (h : isB b = false) : ∀ op ∈ (opsB (F := F)), dr b ∉ op.writes := by
  simp only [isB, decide_eq_false_iff_not, not_or] at h
  obtain ⟨h0, h1⟩ := h
  refine List.forall_iff_forall_mem.mp ?_
  simp only [opsB, List.Forall, StableHlo.reshape_writes, Finset.mem_singleton]
  exact ⟨StableHlo.devRef_ne_of_ne h0, StableHlo.devRef_ne_of_ne h1⟩

/-- Argument 0 ends as it began. -/
theorem arg0_kept (d : Dev nD) : V5 m d (dr main_arg0) = m (d, dr main_arg0) :=
  V5_keeps m d main_arg0 (opsA_writes _ (by decide)) (opsB_writes _ (by decide)) (by decide) (by decide) (by decide)
/-- Argument 1 ends as it began. -/
theorem arg1_kept (d : Dev nD) : V5 m d (dr main_arg1) = m (d, dr main_arg1) :=
  V5_keeps m d main_arg1 (opsA_writes _ (by decide)) (opsB_writes _ (by decide)) (by decide) (by decide) (by decide)
/-- Argument 2 ends as it began. -/
theorem arg2_kept (d : Dev nD) : V5 m d (dr main_arg2) = m (d, dr main_arg2) :=
  V5_keeps m d main_arg2 (opsA_writes _ (by decide)) (opsB_writes _ (by decide)) (by decide) (by decide) (by decide)
/-- Argument 3 ends as it began. -/
theorem arg3_kept (d : Dev nD) : V5 m d (dr main_arg3) = m (d, dr main_arg3) :=
  V5_keeps m d main_arg3 (opsA_writes _ (by decide)) (opsB_writes _ (by decide)) (by decide) (by decide) (by decide)
/-- Argument 4 ends as it began. -/
theorem arg4_kept (d : Dev nD) : V5 m d (dr main_arg4) = m (d, dr main_arg4) :=
  V5_keeps m d main_arg4 (opsA_writes _ (by decide)) (opsB_writes _ (by decide)) (by decide) (by decide) (by decide)
/-- Argument 5 ends as it began. -/
theorem arg5_kept (d : Dev nD) : V5 m d (dr main_arg5) = m (d, dr main_arg5) :=
  V5_keeps m d main_arg5 (opsA_writes _ (by decide)) (opsB_writes _ (by decide)) (by decide) (by decide) (by decide)
/-- Argument 6 ends as it began. -/
theorem arg6_kept (d : Dev nD) : V5 m d (dr main_arg6) = m (d, dr main_arg6) :=
  V5_keeps m d main_arg6 (opsA_writes _ (by decide)) (opsB_writes _ (by decide)) (by decide) (by decide) (by decide)

/-! ## The precondition -/

/-- `(0 ≤ x) & (x < 100000)`, all ones, puts every index in the table. -/
theorem in_vocab_of_pre [Cert.Pre_in_vocab.Facts]
    (h : ∀ c : Dev nD, Cert.Pre_in_vocab.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (fun _ => 1#1)) : InVocab m := by
  have both (p q : Bool) : IntOp.andi (BitVec.ofBool p) (BitVec.ofBool q) = BitVec.ofBool (p && q) := by revert p q; decide
  have one (p : Bool) : (BitVec.ofBool p = 1#1) ↔ p = true := by revert p; decide
  have word : ∀ w : BitVec 32, IntOp.andi (IntOp.cmpi .sge w 0#32) (IntOp.cmpi .slt w 100000#32) = 1#1 → w.toNat < 100000 := by
    intro w hw
    simp only [IntOp.cmpi, both, one, Bool.and_eq_true, BitVec.sle_eq_decide, BitVec.slt_eq_decide, decide_eq_true_eq, BitVec.toInt_eq_toNat_cond,
      BitVec.toNat_ofNat, Nat.reducePow, Nat.reduceMod] at hw
    omega
  intro d j
  have hj := congrFun (h d) j
  simp only [Pre_in_vocab.fn, andi, cmpi, broadcastInDim, constantI] at hj
  exact word _ hj

/-! ## The run, as the claims state it -/

/-- The program runs to its end: the result at its value, the arguments unchanged, the counters at zero. -/
theorem run_ends [∀ e, Nonempty (Elt F e)] (h : InVocab m) :
    θ_run (defs (F := F)) (threads (F := F)) ⟨m, fun _ => 0, ρ⟩ fun r => (∀ c : Dev nD,
      r.2.mem ((c.tc : Thread nD τ).loc main_v8) = V5 m c (dr main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun _ hr => ⟨fun c => ⟨hr.1 c _ (mem_ucRefs _ (by decide)),
    (hr.1 c _ (mem_ucRefs _ (by decide))).trans (arg0_kept m c),
    (hr.1 c _ (mem_ucRefs _ (by decide))).trans (arg1_kept m c),
    (hr.1 c _ (mem_ucRefs _ (by decide))).trans (arg2_kept m c),
    (hr.1 c _ (mem_ucRefs _ (by decide))).trans (arg3_kept m c),
    (hr.1 c _ (mem_ucRefs _ (by decide))).trans (arg4_kept m c),
    (hr.1 c _ (mem_ucRefs _ (by decide))).trans (arg5_kept m c),
    (hr.1 c _ (mem_ucRefs _ (by decide))).trans (arg6_kept m c)⟩, hr.2⟩) (run_main m ρ h)

end Cert.KernelIdeal.Own

end
-- ==== Proof.Bag.lean ====
/-
  The function that the kernel and the reference compute, written out over the extended reals: the weight of a word of a
  document is its number of occurrences there times its idf, over the sum of the idf of all the document's words; the
  document is the weighted sum of its words' embeddings; two linear layers follow. And the one law the two sides differ
  by: a sum over the whole vocabulary of count times f is the sum of f over the document's words.
-/
module

public import Idealize.ShloMosaic.Lib.Pointwise

@[expose] public section

noncomputable section

namespace Cert.Bag

open Idealize.ShloMosaic

/-- The shape of the index array, a row per document; -/
abbrev Words : Shape := ⟨2, ![1024, 200]⟩
/-- of the table of word vectors; -/
abbrev Table : Shape := ⟨2, ![100000, 100]⟩
/-- of the words' inverse document frequencies. -/
abbrev Vocab : Shape := ⟨1, ![100000]⟩

/-- The table row of word `l` of document `b`. -/
def row (x : Words.Idx → BitVec 32) (b : Fin 1024) (l : Fin 200) : Fin 100000 := ⟨(x (ix2 b l)).toNat % 100000, Nat.mod_lt _ (by decide)⟩

/-- How often word `l` of document `b` occurs in the document. -/
def cnt (x : Words.Idx → BitVec 32) (b : Fin 1024) (l : Fin 200) : EReal := ∑ l' : Fin 200, if row x b l' = row x b l then 1 else 0

/-- The weight of word `l` of document `b`. -/
def wt (x : Words.Idx → BitVec 32) (idf : Vocab.Idx → EReal) (b : Fin 1024) (l : Fin 200) : EReal :=
  Ideal.div (cnt x b l * idf (ix1 (row x b l))) (∑ l' : Fin 200, idf (ix1 (row x b l')))

/-- The document's weighted sum of embeddings. -/
def bag (x : Words.Idx → BitVec 32) (tb : Table.Idx → EReal) (idf : Vocab.Idx → EReal) (b : Fin 1024) (k : Fin 100) : EReal :=
  ∑ l : Fin 200, tb (ix2 (row x b l) k) * wt x idf b l

/-- The first linear layer. -/
def hid (x : Words.Idx → BitVec 32) (tb : Table.Idx → EReal) (idf : Vocab.Idx → EReal) (w1 : (⟨2, ![5, 100]⟩ : Shape).Idx → EReal)
    (b1 : (⟨1, ![5]⟩ : Shape).Idx → EReal) (b : Fin 1024) (j : Fin 5) : EReal :=
  (∑ k : Fin 100, bag x tb idf b k * w1 (ix2 j k)) + b1 (ix1 j)

/-- The second. -/
def out (x : Words.Idx → BitVec 32) (tb : Table.Idx → EReal) (idf : Vocab.Idx → EReal) (w1 : (⟨2, ![5, 100]⟩ : Shape).Idx → EReal)
    (b1 : (⟨1, ![5]⟩ : Shape).Idx → EReal) (w2 : (⟨2, ![100, 5]⟩ : Shape).Idx → EReal) (b2 : (⟨1, ![100]⟩ : Shape).Idx → EReal)
    (b : Fin 1024) (k : Fin 100) : EReal :=
  (∑ j : Fin 5, hid x tb idf w1 b1 b j * w2 (ix2 k j)) + b2 (ix1 k)

/-- A sum of zeros and ones times a number is the sum of the products, over the extended reals too. -/
theorem sum_ind_mul {I : Type} (s : Finset I) (p : I → Prop) [DecidablePred p] (a : EReal) :
    (∑ i ∈ s, if p i then (1 : EReal) else 0) * a = ∑ i ∈ s, if p i then a else 0 := by
  classical
  induction s using Finset.induction_on with
  | empty => simp
  | insert i s hi ih =>
    have h0 : ∀ i, (0 : EReal) ≤ if p i then 1 else 0 := fun i => by split <;> norm_num
    rw [Finset.sum_insert hi, Finset.sum_insert hi, EReal.right_distrib_of_nonneg (h0 i) (Finset.sum_nonneg fun i _ => h0 i), ih]
    split <;> simp

/-- Summed over the vocabulary, count times `f` is the sum of `f` over the words. -/
theorem sum_counts {I V : Type} [Fintype I] [Fintype V] [DecidableEq V] (r : I → V) (f : V → EReal) :
    (∑ v : V, (∑ i : I, if r i = v then (1 : EReal) else 0) * f v) = ∑ i : I, f (r i) := by
  rw [Finset.sum_congr rfl fun v _ => sum_ind_mul Finset.univ (fun i => r i = v) (f v), Finset.sum_comm]
  exact Finset.sum_congr rfl fun i _ => by rw [Finset.sum_ite_eq]; simp

end Cert.Bag

end
-- ==== Proof.IPay.lean ====
/-
  What the two TensorCore bodies compute, read element by element on the extended reals.
-/
module

public import proofs.«01_k».proof.Proof.Bag
public import proofs.«01_k».proof.Proof.Gen.KernelIdeal.Skeleton
public import Idealize.ShloMosaic.Lib.Pointwise
public import Idealize.ShloMosaic.Lib.IdealHost

@[expose] public section

set_option maxRecDepth 16384

noncomputable section

namespace Cert.KernelIdeal.Own

open Cert.KernelIdeal Cert.KernelIdeal.Gen Idealize.ShloMosaic

/-- The row that holds word `l` of document `p` of a block: of eight documents, -/
def at8 (p : Fin 8) (l : Fin 200) : Fin 1600 := ⟨p.val * 200 + l.val, by omega⟩
/-- of thirty-two. -/
def at32 (p : Fin 32) (l : Fin 200) : Fin 6400 := ⟨p.val * 200 + l.val, by omega⟩

/-- The first body: how many words of its document are the word. -/
theorem pay1_apply (x : IVec S8x200 32) (p : Fin 8) (l : Fin 200) (z : Fin 1) :
    k1_pay1 (F := Ideal) x (ix2 (at8 p l) z) = ∑ l' : Fin 200, if x (ix2 p l) = x (ix2 p l') then (1 : EReal) else 0 := by
  unfold k1_pay1 at8
  pointwise
  refine Finset.sum_congr rfl fun l' _ => ?_
  by_cases h : x (ix2 p l) = x (ix2 p l')
  · rw [if_pos h, h]
    have e : BitVec.setWidth 32 (IntOp.cmpi .eq (x (ix2 p l')) (x (ix2 p l'))) = 1#32 := by simp [IntOp.cmpi]
    rw [e]
    show (((1#32).toInt : ℝ) : EReal) = 1
    norm_num
  · rw [if_neg h]
    have e : BitVec.setWidth 32 (IntOp.cmpi .eq (x (ix2 p l)) (x (ix2 p l'))) = 0#32 := by
      have hb : (x (ix2 p l) == x (ix2 p l')) = false := beq_eq_false_iff_ne.2 h
      simp [IntOp.cmpi, hb]
    rw [e]
    show (((0#32).toInt : ℝ) : EReal) = 0
    norm_num

/-- The second body: the document's words, each by its share of the document's frequencies, added up and taken through the two layers. -/
theorem pay2_apply (x : FVec Ideal S6400x128 .f32) (n : FVec Ideal S6400x1 .f32) (w1 : FVec Ideal S5x100 .f32) (b1 : FVec Ideal S1x5 .f32) (w2 : FVec Ideal S100x5 .f32) (b2 : FVec Ideal S1x100 .f32) (p : Fin 32) (k : Fin 100) :
    k2_pay1 (F := Ideal) x n w1 b1 w2 b2 (ix2 p k) = (∑ j : Fin 5, ((∑ i : Fin 100, (∑ l : Fin 200, x (ix2 (at32 p l) ⟨i.val, by omega⟩)
      * Ideal.div (n (ix2 (at32 p l) 0) * x (ix2 (at32 p l) 100)) (∑ l' : Fin 200, x (ix2 (at32 p l') 100))) * w1 (ix2 j i)) + b1 (ix2 0 j)) * w2 (ix2 k j)) + b2 (ix2 0 k) := by
  unfold k2_pay1 at32
  pointwise

end Cert.KernelIdeal.Own

end
-- ==== Proof.IArr.lean ====
/-
  What the two TensorCore regions leave in their output arrays, from what the arrays they read held.
-/
module

public import proofs.«01_k».proof.Proof.IEnd
public import proofs.«01_k».proof.Proof.IPay
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe Cert.Bag
open Idealize.ShloMosaic.Pipeline (Dat Cfg Window arrRef)

/-- The document of row `i` of the gathered rows, -/
def docOf (i : Fin 204800) : Fin 1024 := ⟨i.val / 200, by omega⟩
/-- and the word's place in it. -/
def wordOf (i : Fin 204800) : Fin 200 := ⟨i.val % 200, by omega⟩

/-- Row by row, how many words of the row's document are the row's word. -/
def counts (x : IVec S1024x200 32) : FVec Ideal S204800x1 .f32 := fun i =>
  ∑ l' : Fin 200, if x (ix2 (docOf (i 0)) (wordOf (i 0))) = x (ix2 (docOf (i 0)) l') then (1 : EReal) else 0

variable (V : Dev nD → Valuation τ sig (Elt Ideal))

/-- The blocks of the counting region at its point `t`: that of the index array, -/
theorem idx1_0 : ∀ t : Fin cfg1.N, win1_0.index t = ![(grid1.coords t 0).val, 0] := (by decide +kernel : ∀ t : Fin grid1.N, _)
/-- and that of the counts. -/
theorem idx1_1 : ∀ t : Fin cfg1.N, win1_1.index t = ![(grid1.coords t 0).val, 0] := (by decide +kernel : ∀ t : Fin grid1.N, _)

/-- **The counting region** leaves the counts. -/
theorem region1_eq (c : Dev nD) : (dat1 V c).arrAt 1 cfg1.N = counts (V c (dr main_arg0)) := by
  refine (dat1 V c).arrAt_eq_of_covers 1 _ (by decide +kernel) fun t hf y => ?_
  blk_simp
  rw [after1_1, left1_eq]
  idx_bounds y
  obtain ⟨p, l, z, rfl⟩ : ∃ (p : Fin 8) (l : Fin 200) (z : Fin 1), y = ix2 (at8 p l) z := by
    refine ⟨⟨(y 0).val / 200, by omega⟩, ⟨(y 0).val % 200, by omega⟩, ⟨(y 1).val, hb1⟩, ?_⟩
    funext a
    match a with
    | ⟨0, _⟩ => exact Fin.ext (by show (y 0).val = (y 0).val / 200 * 200 + (y 0).val % 200; omega)
    | ⟨1, _⟩ => rfl
  refine (pay1_apply (iblk1 V c 0 t) p l z).trans ?_
  have e : (((win1_1.blk t).view.emb (ix2 (at8 p l) z)) 0 : Nat) = (grid1.coords t 0).val * 1600 + (p.val * 200 + l.val) := by
    blk_simp [idx1_1]
    rfl
  have hp := p.isLt
  have hl := l.isLt
  have hd : (docOf (((win1_1.blk t).view.emb (ix2 (at8 p l) z)) 0)).val = (grid1.coords t 0).val * 8 + p.val := by
    show (((win1_1.blk t).view.emb (ix2 (at8 p l) z)) 0 : Nat) / 200 = _
    rw [e]; omega
  have hw : wordOf (((win1_1.blk t).view.emb (ix2 (at8 p l) z)) 0) = l := Fin.ext (by
    show (((win1_1.blk t).view.emb (ix2 (at8 p l) z)) 0 : Nat) % 200 = _
    rw [e]; omega)
  have r : ∀ l' : Fin 200, iblk1 V c 0 t (ix2 p l')
      = V c (dr main_arg0) (ix2 (docOf (((win1_1.blk t).view.emb (ix2 (at8 p l) z)) 0)) l' : S1024x200.Idx) := fun l' => by
    blk_simp [iblk1]
    refine congrArg (V c (dr main_arg0)) ?_
    blk_ext [idx1_0]
    exact hd.symm
  rw [r l]
  simp only [r]
  unfold counts
  rw [hw]

/-- The row of the gathered rows that holds word `l` of document `b`. -/
def rowAt (b : Fin 1024) (l : Fin 200) : Fin 204800 := ⟨b.val * 200 + l.val, by omega⟩

/-- From the gathered rows, the counts and the layers' parameters, the result. -/
def layered (r : FVec Ideal S204800x128 .f32) (n : FVec Ideal S204800x1 .f32) (w1 : FVec Ideal S5x100 .f32) (b1 : FVec Ideal S1x5 .f32) (w2 : FVec Ideal S100x5 .f32)
    (b2 : FVec Ideal S1x100 .f32) : FVec Ideal S1024x100 .f32 := fun i =>
  (∑ j : Fin 5, ((∑ k : Fin 100, (∑ l : Fin 200, r (ix2 (rowAt (i 0) l) ⟨k.val, by omega⟩)
      * Ideal.div (n (ix2 (rowAt (i 0) l) 0) * r (ix2 (rowAt (i 0) l) 100)) (∑ l' : Fin 200, r (ix2 (rowAt (i 0) l') 100))) * w1 (ix2 j k)) + b1 (ix2 0 j)) * w2 (ix2 (i 1) j)) + b2 (ix2 0 (i 1))

/-- The blocks of the second region at its point `t`: that of the gathered rows, -/
theorem idx2_0 : ∀ t : Fin cfg2.N, win2_0.index t = ![(grid2.coords t 0).val, 0] := (by decide +kernel : ∀ t : Fin grid2.N, _)
/-- that of the counts, -/
theorem idx2_1 : ∀ t : Fin cfg2.N, win2_1.index t = ![(grid2.coords t 0).val, 0] := (by decide +kernel : ∀ t : Fin grid2.N, _)
/-- the first layer's matrix whole, -/
theorem idx2_2 : ∀ t : Fin cfg2.N, win2_2.index t = ![0, 0] := (by decide +kernel : ∀ t : Fin grid2.N, _)
/-- its offsets whole, -/
theorem idx2_3 : ∀ t : Fin cfg2.N, win2_3.index t = ![0, 0] := (by decide +kernel : ∀ t : Fin grid2.N, _)
/-- the second layer's matrix whole, -/
theorem idx2_4 : ∀ t : Fin cfg2.N, win2_4.index t = ![0, 0] := (by decide +kernel : ∀ t : Fin grid2.N, _)
/-- its offsets whole, -/
theorem idx2_5 : ∀ t : Fin cfg2.N, win2_5.index t = ![0, 0] := (by decide +kernel : ∀ t : Fin grid2.N, _)
/-- and that of the result. -/
theorem idx2_6 : ∀ t : Fin cfg2.N, win2_6.index t = ![(grid2.coords t 0).val, 0] := (by decide +kernel : ∀ t : Fin grid2.N, _)

/-- **The second region** leaves the result. -/
theorem region2_eq (c : Dev nD) : (dat2 V c).arrAt 6 cfg2.N
    = layered (V c (dr main_v4)) (V c (dr main_v5)) (V c (dr main_arg3)) (V c (dr main_v6)) (V c (dr main_arg5)) (V c (dr main_v7)) := by
  refine (dat2 V c).arrAt_eq_of_covers 6 _ (by decide +kernel) fun t hf y => ?_
  blk_simp
  rw [after2_6, left2_eq]
  idx_bounds y
  obtain ⟨p, k, rfl⟩ : ∃ (p : Fin 32) (k : Fin 100), y = ix2 p k := by
    refine ⟨⟨(y 0).val, hb0⟩, ⟨(y 1).val, hb1⟩, ?_⟩
    funext a
    match a with
    | ⟨0, _⟩ => rfl
    | ⟨1, _⟩ => rfl
  refine (pay2_apply (iblk2 V c 0 t) (iblk2 V c 1 t) (iblk2 V c 2 t) (iblk2 V c 3 t) (iblk2 V c 4 t) (iblk2 V c 5 t) p k).trans ?_
  have e0 : (((win2_6.blk t).view.emb (ix2 p k)) 0 : Nat) = (grid2.coords t 0).val * 32 + p.val := by
    blk_simp [idx2_6]
  have e1 : ((win2_6.blk t).view.emb (ix2 p k)) 1 = k := Fin.ext (by
    blk_simp [idx2_6])
  have hp := p.isLt
  have hd : ∀ l : Fin 200, (rowAt (((win2_6.blk t).view.emb (ix2 p k)) 0) l).val = (grid2.coords t 0).val * 6400 + (p.val * 200 + l.val) := fun l => by
    show (((win2_6.blk t).view.emb (ix2 p k)) 0 : Nat) * 200 + l.val = _
    rw [e0]; omega
  have r : ∀ (l : Fin 200) (q : Fin 128), iblk2 V c 0 t (ix2 (at32 p l) q)
      = V c (dr main_v4) (ix2 (rowAt (((win2_6.blk t).view.emb (ix2 p k)) 0) l) q : S204800x128.Idx) := fun l q => by
    blk_simp [iblk2]
    refine congrArg (V c (dr main_v4)) ?_
    blk_ext [idx2_0]
    exact (hd l).symm
  have n : ∀ (l : Fin 200), iblk2 V c 1 t (ix2 (at32 p l) 0)
      = V c (dr main_v5) (ix2 (rowAt (((win2_6.blk t).view.emb (ix2 p k)) 0) l) 0 : S204800x1.Idx) := fun l => by
    blk_simp [iblk2]
    refine congrArg (V c (dr main_v5)) ?_
    blk_ext [idx2_1]
    exact (hd l).symm
  have w2 : (iblk2 V c 2 t : S5x100.Idx → EReal) = V c (dr main_arg3) := by
    funext i
    blk_simp [iblk2]
    refine congrArg (V c (dr main_arg3)) ?_
    blk_ext [idx2_2]
  have w3 : (iblk2 V c 3 t : S1x5.Idx → EReal) = V c (dr main_v6) := by
    funext i
    blk_simp [iblk2]
    refine congrArg (V c (dr main_v6)) ?_
    blk_ext [idx2_3]
  have w4 : (iblk2 V c 4 t : S100x5.Idx → EReal) = V c (dr main_arg5) := by
    funext i
    blk_simp [iblk2]
    refine congrArg (V c (dr main_arg5)) ?_
    blk_ext [idx2_4]
  have w5 : (iblk2 V c 5 t : S1x100.Idx → EReal) = V c (dr main_v7) := by
    funext i
    blk_simp [iblk2]
    refine congrArg (V c (dr main_v7)) ?_
    blk_ext [idx2_5]
  simp only [r, n, w2, w3, w4, w5]
  unfold layered
  rw [e1]

end Cert.KernelIdeal.Own

end
-- ==== Proof.RefValue.lean ====
/-
  The reference's result, read element by element: where every word of the index array is a row of the table, it is the
  function of Proof/Bag.lean.
-/
module

public import proofs.«01_k».proof.Proof.Bag
public import proofs.«01_k».proof.Proof.Gen.ReferenceIdeal.Run
public import Idealize.ShloMosaic.Lib.Pointwise
public import Idealize.ShloMosaic.Lib.IdealHost
public import Idealize.ShloMosaic.Lib.ReduceAll
public import Idealize.ShloMosaic.Lib.Routing.OpsPair

@[expose] public section

set_option maxRecDepth 16384

noncomputable section

namespace Cert.ReferenceIdeal.Own

open Cert.ReferenceIdeal Cert.ReferenceIdeal.Gen Cert.ReferenceIdeal.Value Idealize.ShloMosaic Idealize.ShloMosaic.TcCoe Cert.Bag

/-! ## The indices -/

/-- A negative index counts from the end; -/
def wrapped (x : IVec S1024x200 32) : IVec S1024x200 32 :=
  select (cmpi .slt x (broadcastInDim S1024x200 ![] bcast_S_S1024x200 (constantI S_ 32 0#32)))
    (addi x (broadcastInDim S1024x200 ![] bcast_S_S1024x200 (constantI S_ 32 100000#32))) x

/-- here none is. -/
theorem wrapped_eq (x : IVec S1024x200 32) (hx : ∀ j, (x j).toNat < 100000) : wrapped x = x := by
  funext j
  exact Routing.wrap_of_lt (x j) _ (by have := hx j; omega)

/-- The documents' numbers, -/
def docs : IVec S1024x1 32 :=
  select (cmpi .slt (broadcastInDim S1024x1 ![0] bcast_S1024_S1024x1_0 (iotaInDim S1024 32 0)) (broadcastInDim S1024x1 ![] bcast_S_S1024x1 (constantI S_ 32 0#32)))
    (addi (broadcastInDim S1024x1 ![0] bcast_S1024_S1024x1_0 (iotaInDim S1024 32 0)) (broadcastInDim S1024x1 ![] bcast_S_S1024x1 (constantI S_ 32 1024#32)))
    (broadcastInDim S1024x1 ![0] bcast_S1024_S1024x1_0 (iotaInDim S1024 32 0))

/-- of which document `b` has number `b`, -/
theorem docs_apply (b : Fin 1024) (z : Fin 1) : docs (ix2 b z) = BitVec.ofNat 32 b.val := by
  have h : (broadcastInDim S1024x1 ![0] bcast_S1024_S1024x1_0 (iotaInDim S1024 32 0)) (ix2 b z) = BitVec.ofNat 32 b.val := rfl
  refine (Routing.wrap_of_lt _ _ ?_).trans h
  rw [h, BitVec.toNat_ofNat]
  have := b.isLt
  omega

/-- and beside each word its document's. -/
def pairs (x : IVec S1024x200 32) : IVec S1024x200x2 32 :=
  concatenate S1024x200x2 2 [⟨S1024x200x1, (broadcastInDim S1024x200x1 ![0, 1] bcast_S1024x200_S1024x200x1_0_1 (broadcastInDim S1024x200 ![0, 1] bcast_S1024x1_S1024x200_0_1 docs))⟩,
    ⟨S1024x200x1, (broadcastInDim S1024x200x1 ![0, 1] bcast_S1024x200_S1024x200x1_0_1 (wrapped x))⟩] concatenates_S1024x200x1_S1024x200x1_S1024x200x2_d2

/-- The first of a pair is the document's number, -/
theorem pairs_zero (x : IVec S1024x200 32) (b : Fin 1024) (l : Fin 200) : pairs x (ix3 b l 0) = BitVec.ofNat 32 b.val := by
  rw [← docs_apply b 0]
  unfold pairs
  pointwise
/-- the second the word. -/
theorem pairs_one (x : IVec S1024x200 32) (b : Fin 1024) (l : Fin 200) : pairs x (ix3 b l 1) = wrapped x (ix2 b l) := by
  unfold pairs
  pointwise

/-! ## The term frequencies -/

/-- The counts: ones added up at their document's and word's place. -/
def tf (x : IVec S1024x200 32) : FVec Ideal S1024x100000 .f32 :=
  Host.scatterAdd scatter_S1024x100000_S1024x200x2_S1024x200_n_01_01_2 (broadcastInDim S1024x100000 ![] bcast_S_S1024x100000 (constant S_ .f32 0x00000000#32)) (pairs x)
    (broadcastInDim S1024x200 ![] bcast_S_S1024x200 (constant S_ .f32 0x3F800000#32))

/-- `1.0` is one. -/
theorem one_word : (FloatOps.ofBits .f32 0x3F800000#32 : Ideal .f32) = (1 : EReal) := by
  show Ideal.ofBits .f32 0x3F800000#32 = 1
  simp [Ideal.ofBits, Ideal.ieee, -EReal.coe_mul]; norm_num

/-- A frequency is how many words of the document are the word. -/
theorem tf_apply (x : IVec S1024x200 32) (hx : ∀ j, (x j).toNat < 100000) (b : Fin 1024) (v : Fin 100000) :
    tf x (ix2 b v) = ∑ l : Fin 200, if row x b l = v then (1 : EReal) else 0 := by
  have lands : ∀ (a : Fin 1024) (l : Fin 200), scatter_S1024x100000_S1024x200x2_S1024x200_n_01_01_2.resultIdx? (ix2 a l) (pairs x) = some (ix2 b v)
      ↔ a = b ∧ row x a l = v := by
    intro a l
    refine (Routing.scatter_lands2 (R := 1024) (C := 100000) (A := 1024) (B := 200) scatter_S1024x100000_S1024x200x2_S1024x200_n_01_01_2 rfl rfl rfl (pairs x) a l b v).trans ?_
    rw [show pairs x (ValueIdx.ix3 a l 0) = _ from pairs_zero x a l, show pairs x (ValueIdx.ix3 a l 1) = _ from pairs_one x a l, wrapped_eq x hx]
    have h1 := hx (ix2 a l)
    have h2 := a.isLt
    have h3 := b.isLt
    have e1 : (BitVec.ofNat 32 a.val).toInt = (a.val : Int) := by
      rw [BitVec.toInt_eq_toNat_cond, BitVec.toNat_ofNat]; omega
    have e2 : (x (ix2 a l)).toInt = ((x (ix2 a l)).toNat : Int) := by
      rw [BitVec.toInt_eq_toNat_cond]; omega
    rw [e1, e2]
    unfold row
    rw [Fin.ext_iff, Fin.ext_iff]
    show _ ↔ a.val = b.val ∧ (x (ix2 a l)).toNat % 100000 = v.val
    rw [Nat.mod_eq_of_lt h1]
    omega
  show Ideal.ofBits .f32 0x00000000#32 + ∑ j ∈ Finset.univ.filter (fun j => scatter_S1024x100000_S1024x200x2_S1024x200_n_01_01_2.resultIdx? j (pairs x) = some (ix2 b v)),
    (FloatOps.ofBits .f32 0x3F800000#32 : Ideal .f32) = _
  rw [one_word, Finset.sum_filter, sum_idx2]
  rw [Finset.sum_congr rfl fun a _ => Finset.sum_congr rfl fun l _ => if_congr (lands a l) rfl rfl]
  rw [Finset.sum_eq_single b (fun a _ h => Finset.sum_eq_zero fun l _ => if_neg fun hh => h hh.1) (fun h => absurd (Finset.mem_univ b) h)]
  simp [Ideal.ofBits, Ideal.ieee]

/-! ## Reading at the indices -/

/-- A word below the table's length, as a signed number. -/
theorem toInt_row {w : BitVec 32} (h : w.toNat < 100000) : w.toInt.toNat = w.toNat := by
  rw [BitVec.toInt_eq_toNat_cond]; omega

/-- A column of its document's row, read at a word. -/
theorem gather_col {α : Type} (t : S1024x100000.Idx → α) (y : IVec S1024x200x1 32) (b : Fin 1024) (l : Fin 200) (v : Fin 100000)
    (hy : (y (ix3 b l 0)).toNat = v.val) :
    Host.gather gather_S1024x100000_S1024x200x1_S1024x200_n_1_0_0_1_2_11 t y (ix2 b l) = t (ix2 b v) := by
  unfold Host.gather
  refine congrArg t (funext fun a => Fin.ext ?_)
  have hv := v.isLt
  match a with
  | ⟨0, _⟩ =>
    show 0 + b.val + 0 = b.val
    omega
  | ⟨1, _⟩ =>
    have e : gather_S1024x100000_S1024x200x1_S1024x200_n_1_0_0_1_2_11.siIdx (ix2 b l) ⟨0, by decide⟩ = ix3 b l 0 := by
      funext a
      match a with
      | ⟨0, _⟩ => rfl
      | ⟨1, _⟩ => rfl
      | ⟨2, _⟩ => rfl
    show min (y (gather_S1024x100000_S1024x200x1_S1024x200_n_1_0_0_1_2_11.siIdx (ix2 b l) ⟨0, by decide⟩)).toInt.toNat (100000 - 1) + 0 + 0 = v.val
    rw [e, toInt_row (by omega), hy]
    omega

/-- A row of the table, read at a word. -/
theorem gather_table {α : Type} (t : S100000x100.Idx → α) (y : IVec S1024x200x1 32) (b : Fin 1024) (l : Fin 200) (k : Fin 100) (v : Fin 100000)
    (hy : (y (ix3 b l 0)).toNat = v.val) :
    Host.gather gather_S100000x100_S1024x200x1_S1024x200x100_2_0_n_n_0_2_1100 t y (ix3 b l k) = t (ix2 v k) := by
  unfold Host.gather
  refine congrArg t (funext fun a => Fin.ext ?_)
  have hv := v.isLt
  match a with
  | ⟨0, _⟩ =>
    have e : gather_S100000x100_S1024x200x1_S1024x200x100_2_0_n_n_0_2_1100.siIdx (ix3 b l k) ⟨0, by decide⟩ = ix3 b l 0 := by
      funext a
      match a with
      | ⟨0, _⟩ => rfl
      | ⟨1, _⟩ => rfl
      | ⟨2, _⟩ => rfl
    show min (y (gather_S100000x100_S1024x200x1_S1024x200x100_2_0_n_n_0_2_1100.siIdx (ix3 b l k) ⟨0, by decide⟩)).toInt.toNat (100000 - 1) + 0 + 0 = v.val
    rw [e, toInt_row (by omega), hy]
    omega
  | ⟨1, _⟩ =>
    show 0 + 0 + k.val = k.val
    omega

/-- Whether the words lie inside the table; -/
def inside (y : IVec S1024x200x1 32) : IVec S1024x200 1 :=
  Host.reduce IntOp.andi (andi (cmpi .sge y (broadcastInDim S1024x200x1 ![] bcast_S_S1024x200x1 (constantI S_ 32 0#32)))
    (cmpi .sle y (broadcastInDim S1024x200x1 ![0, 1, 2] bcast_S1x1x1_S1024x200x1_0_1_2 (broadcastInDim S1x1x1 ![2] bcast_S1_S1x1x1_2 (constantI S1 32 99999#32)))))
    (constantI S_ 1 1#1) reducesTo_S1024x200x1_S1024x200_d2 h_S_

/-- here they do. -/
theorem inside_eq (y : IVec S1024x200x1 32) (hy : ∀ i, (y i).toNat < 100000) (j : S1024x200.Idx) : inside y j = 1#1 := by
  refine Host.reduce_andi_one _ _ _ _ _ rfl fun i => ?_
  have h := hy i
  show IntOp.andi (IntOp.cmpi .sge (y i) 0#32) (IntOp.cmpi .sle (y i) 99999#32) = 1#1
  have h1 : (0#32).sle (y i) = true := by
    rw [BitVec.sle, decide_eq_true_eq, BitVec.toInt_eq_toNat_cond (y i)]
    simp; omega
  have h2 : (y i).sle 99999#32 = true := by
    rw [BitVec.sle, decide_eq_true_eq, BitVec.toInt_eq_toNat_cond (y i)]
    simp; omega
  simp [IntOp.cmpi, IntOp.andi, h1, h2]

/-! ## The weights -/

/-- The frequencies times the words' inverse document frequencies, -/
def scored (x : IVec S1024x200 32) (idf : FVec Ideal S100000 .f32) : FVec Ideal S1024x100000 .f32 :=
  mulf (tf x) (broadcastInDim S1024x100000 ![0, 1] bcast_S1x100000_S1024x100000_0_1 (broadcastInDim S1x100000 ![1] bcast_S100000_S1x100000_1 idf))

/-- element by element, -/
theorem scored_apply (x : IVec S1024x200 32) (idf : FVec Ideal S100000 .f32) (b : Fin 1024) (v : Fin 100000) :
    scored x idf (ix2 b v) = tf x (ix2 b v) * idf (ix1 v) := by
  unfold scored
  pointwise

/-- each over its document's sum, -/
def shares (x : IVec S1024x200 32) (idf : FVec Ideal S100000 .f32) : FVec Ideal S1024x100000 .f32 :=
  Host.divf (scored x idf) (broadcastInDim S1024x100000 ![0, 1] bcast_S1024x1_S1024x100000_0_1 (broadcastInDim S1024x1 ![0] bcast_S1024_S1024x1_0 (Host.reduceAdd (scored x idf) (constant S_ .f32 0x00000000#32) reducesTo_S1024x100000_S1024_d1 h_S_)))

/-- which is the sum of its words' frequencies. -/
theorem shares_apply (x : IVec S1024x200 32) (hx : ∀ j, (x j).toNat < 100000) (idf : FVec Ideal S100000 .f32) (b : Fin 1024) (v : Fin 100000) :
    shares x idf (ix2 b v) = Ideal.div (tf x (ix2 b v) * idf (ix1 v)) (∑ l : Fin 200, idf (ix1 (row x b l))) := by
  unfold shares
  pointwise
  rw [← sum_counts (fun l => row x b l) fun v => idf (ix1 v)]
  simp only [scored_apply, tf_apply x hx]

/-- A choice whose condition holds. -/
theorem select_one {s : Shape} {α : Type} (p : IVec s 1) (u v : s.Idx → α) (j : s.Idx) (h : p j = 1#1) : select p u v j = u j := by
  show Scalar.select (p j) (u j) (v j) = u j
  rw [h]; rfl

/-- The words' weights. -/
def weights (x : IVec S1024x200 32) (idf : FVec Ideal S100000 .f32) : FVec Ideal S1024x200 .f32 :=
  select (inside (shapeCast _ (wrapped x) shapeCasts_S1024x200_S1024x200x1))
    (Host.gather gather_S1024x100000_S1024x200x1_S1024x200_n_1_0_0_1_2_11 (shares x idf) (shapeCast _ (wrapped x) shapeCasts_S1024x200_S1024x200x1))
    (broadcastInDim S1024x200 ![] bcast_S_S1024x200 (constant S_ .f32 0x7FC00000#32))

/-- A word's weight is its share. -/
theorem weights_apply (x : IVec S1024x200 32) (hx : ∀ j, (x j).toNat < 100000) (idf : FVec Ideal S100000 .f32) (b : Fin 1024) (l : Fin 200) :
    weights x idf (ix2 b l) = wt x idf b l := by
  have hy : ∀ i, ((shapeCast S1024x200x1 (wrapped x) shapeCasts_S1024x200_S1024x200x1) i).toNat < 100000 := fun i => by
    rw [wrapped_eq x hx]; exact hx _
  have hg := gather_col (shares x idf) (shapeCast S1024x200x1 (wrapped x) shapeCasts_S1024x200_S1024x200x1) b l (row x b l) (by
    rw [wrapped_eq x hx]
    pointwise
    exact (Nat.mod_eq_of_lt (hx _)).symm)
  unfold weights
  rw [select_one _ _ _ _ (inside_eq _ hy _), hg]
  rw [shares_apply x hx, tf_apply x hx]
  rfl

/-- The words' vectors. -/
def vectors (x : IVec S1024x200 32) (tb : FVec Ideal S100000x100 .f32) : FVec Ideal S1024x200x100 .f32 :=
  select (broadcastInDim S1024x200x100 ![0, 1] bcast_S1024x200_S1024x200x100_0_1 (inside (broadcastInDim S1024x200x1 ![0, 1] bcast_S1024x200_S1024x200x1_0_1 (wrapped x))))
    (Host.gather gather_S100000x100_S1024x200x1_S1024x200x100_2_0_n_n_0_2_1100 tb (broadcastInDim S1024x200x1 ![0, 1] bcast_S1024x200_S1024x200x1_0_1 (wrapped x)))
    (broadcastInDim S1024x200x100 ![] bcast_S_S1024x200x100 (constant S_ .f32 0x7FC00000#32))

/-- A word's vector is its row of the table. -/
theorem vectors_apply (x : IVec S1024x200 32) (hx : ∀ j, (x j).toNat < 100000) (tb : FVec Ideal S100000x100 .f32) (b : Fin 1024) (l : Fin 200) (k : Fin 100) :
    vectors x tb (ix3 b l k) = tb (ix2 (row x b l) k) := by
  have hy : ∀ i, ((broadcastInDim S1024x200x1 ![0, 1] bcast_S1024x200_S1024x200x1_0_1 (wrapped x)) i).toNat < 100000 := fun i => by
    rw [wrapped_eq x hx]; exact hx _
  have hg := gather_table tb (broadcastInDim S1024x200x1 ![0, 1] bcast_S1024x200_S1024x200x1_0_1 (wrapped x)) b l k (row x b l) (by
    rw [wrapped_eq x hx]
    pointwise
    exact (Nat.mod_eq_of_lt (hx _)).symm)
  have hm : broadcastInDim S1024x200x100 ![0, 1] bcast_S1024x200_S1024x200x100_0_1 (inside (broadcastInDim S1024x200x1 ![0, 1] bcast_S1024x200_S1024x200x1_0_1 (wrapped x))) (ix3 b l k) = 1#1 :=
    inside_eq _ hy _
  unfold vectors
  rw [select_one _ _ _ _ hm]
  exact hg

/-! ## The layers -/

/-- The documents' vectors, -/
def bags (x : IVec S1024x200 32) (tb : FVec Ideal S100000x100 .f32) (idf : FVec Ideal S100000 .f32) : FVec Ideal S1024x100 .f32 :=
  Host.reduceAdd (mulf (vectors x tb) (broadcastInDim S1024x200x100 ![0, 1, 2] bcast_S1024x200x1_S1024x200x100_0_1_2 (broadcastInDim S1024x200x1 ![0, 1] bcast_S1024x200_S1024x200x1_0_1 (weights x idf)))) (constant S_ .f32 0x00000000#32) reducesTo_S1024x200x100_S1024x100_d1 h_S_

/-- each the weighted sum of its words' vectors; -/
theorem bags_apply (x : IVec S1024x200 32) (hx : ∀ j, (x j).toNat < 100000) (tb : FVec Ideal S100000x100 .f32) (idf : FVec Ideal S100000 .f32) (b : Fin 1024) (k : Fin 100) :
    bags x tb idf (ix2 b k) = bag x tb idf b k := by
  unfold bags bag
  pointwise
  simp only [vectors_apply x hx, weights_apply x hx]

/-- the hidden layer, -/
def hids (x : IVec S1024x200 32) (tb : FVec Ideal S100000x100 .f32) (idf : FVec Ideal S100000 .f32) (w1 : FVec Ideal S5x100 .f32) (b1 : FVec Ideal S5 .f32) : FVec Ideal S1024x5 .f32 :=
  addf (Host.dotGeneral dot_S1024x100_S100x5_S1024x5_1_0_0_1_n_n none (bags x tb idf) (transpose S100x5 [1, 0] w1 transposes_S5x100_S100x5_1_0)) (broadcastInDim S1024x5 ![0, 1] bcast_S1x5_S1024x5_0_1 (broadcastInDim S1x5 ![1] bcast_S5_S1x5_1 b1))

/-- an affine function of them; -/
theorem hids_apply (x : IVec S1024x200 32) (hx : ∀ j, (x j).toNat < 100000) (tb : FVec Ideal S100000x100 .f32) (idf : FVec Ideal S100000 .f32) (w1 : FVec Ideal S5x100 .f32) (b1 : FVec Ideal S5 .f32)
    (b : Fin 1024) (j : Fin 5) : hids x tb idf w1 b1 (ix2 b j) = hid x tb idf w1 b1 b j := by
  unfold hids hid
  pointwise
  simp only [bags_apply x hx]

/-- and the result. -/
def outs (x : IVec S1024x200 32) (tb : FVec Ideal S100000x100 .f32) (idf : FVec Ideal S100000 .f32) (w1 : FVec Ideal S5x100 .f32) (b1 : FVec Ideal S5 .f32)
    (w2 : FVec Ideal S100x5 .f32) (b2 : FVec Ideal S100 .f32) : FVec Ideal S1024x100 .f32 :=
  addf (Host.dotGeneral dot_S1024x5_S5x100_S1024x100_1_0_0_1_n_n none (hids x tb idf w1 b1) (transpose S5x100 [1, 0] w2 transposes_S100x5_S5x100_1_0)) (broadcastInDim S1024x100 ![0, 1] bcast_S1x100_S1024x100_0_1 (broadcastInDim S1x100 ![1] bcast_S100_S1x100_1 b2))

/-- The result is an affine function of the hidden layer. -/
theorem outs_apply (x : IVec S1024x200 32) (hx : ∀ j, (x j).toNat < 100000) (tb : FVec Ideal S100000x100 .f32) (idf : FVec Ideal S100000 .f32) (w1 : FVec Ideal S5x100 .f32) (b1 : FVec Ideal S5 .f32)
    (w2 : FVec Ideal S100x5 .f32) (b2 : FVec Ideal S100 .f32) (b : Fin 1024) (k : Fin 100) :
    outs x tb idf w1 b1 w2 b2 (ix2 b k) = out x tb idf w1 b1 w2 b2 b k := by
  unfold outs out
  pointwise
  simp only [hids_apply x hx]

/-- **The reference's result** is the function of its seven arguments. -/
theorem result_eq (m : (ℓ : Loc nD τ sig) → Buf (Elt Ideal) ℓ) (c : Dev nD) :
    res_main_v41 m c = outs (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Cert.ReferenceIdeal.Own

end
-- ==== Proof.Value.lean ====
/-
  The result the kernel leaves, as the function of Proof/Bag.lean of its arguments, and its equality with the reference's.
-/
module

public import proofs.«01_k».proof.Proof.IArr
public import proofs.«01_k».proof.Proof.RefValue

@[expose] public section

set_option maxRecDepth 16384

noncomputable section

namespace Cert.KernelIdeal.Own

open Cert.KernelIdeal Cert.KernelIdeal.Gen Idealize.ShloMosaic Idealize.ShloMosaic.TcCoe Cert.Bag
open Idealize.ShloMosaic.Tactic
open Idealize.ShloMosaic.Pipeline (Dat Cfg Window arrRef)

variable (m : (ℓ : Loc nD τ sig) → Buf (Elt Ideal) ℓ)

/-! ## The buffers along the run -/

/-- A buffer the first host operations do not write, still at its launch contents after the call; -/
theorem V2_keeps (d : Dev nD) (b : Ref sig .tc) (hA : isA b = false) (h4 : dr b ≠ dr main_v4) : V2 m d (dr b) = m (d, dr b) := by
  unfold V2
  rw [Function.update_of_ne h4]
  unfold V1
  rw [StableHlo.after_of_forall_not_mem opsA (V0 m d) (opsA_writes b hA)]
  rfl
/-- after the counting region; -/
theorem V3_keeps (d : Dev nD) (b : Ref sig .tc) (hA : isA b = false) (h4 : dr b ≠ dr main_v4) (h1 : ∀ w, arrRef spec1 w = b → (cfg1.win w).isOut = false) :
    V3 m d (dr b) = m (d, dr b) := by
  unfold V3
  rw [Pipeline.afterRegion_keeps (dat1 (V2 m) d) (V2 m d) winFacts1.arr_inj (fun _ => rfl) b h1]
  exact V2_keeps m d b hA h4
/-- after the second host operations. -/
theorem V4_keeps (d : Dev nD) (b : Ref sig .tc) (hA : isA b = false) (hB : isB b = false) (h4 : dr b ≠ dr main_v4) (h1 : ∀ w, arrRef spec1 w = b → (cfg1.win w).isOut = false) :
    V4 m d (dr b) = m (d, dr b) := by
  unfold V4
  rw [StableHlo.after_of_forall_not_mem opsB (V3 m d) (opsB_writes b hB)]
  exact V3_keeps m d b hA h4 h1

/-- The gathered rows, as the second region finds them; -/
theorem V4_v4 (d : Dev nD) : V4 m d (dr main_v4) = gath (F := Ideal) (V1 m d (dr main_v2)) (V1 m d (dr main_v3)) := by
  unfold V4
  rw [StableHlo.after_of_forall_not_mem opsB (V3 m d) (opsB_writes main_v4 (by decide))]
  unfold V3
  rw [Pipeline.afterRegion_keeps (dat1 (V2 m) d) (V2 m d) winFacts1.arr_inj (fun _ => rfl) main_v4 (by decide)]
  unfold V2
  exact Function.update_self _ _ _
/-- the counts; -/
theorem V4_v5 (d : Dev nD) : V4 m d (dr main_v5) = counts (m (d, dr main_arg0)) := by
  unfold V4
  rw [StableHlo.after_of_forall_not_mem opsB (V3 m d) (opsB_writes main_v5 (by decide))]
  unfold V3
  refine (Pipeline.afterRegion_arr (dat1 (V2 m) d) (V2 m d) winFacts1.arr_inj 1).trans ?_
  rw [region1_eq, V2_keeps m d main_arg0 (by decide) (by decide)]
/-- the layers' offsets as rows. -/
theorem V4_v6 (d : Dev nD) : V4 m d (dr main_v6) = shapeCast S1x5 (m (d, dr main_arg4) : S5.Idx → EReal) shapeCasts_S5_S1x5 := by
  rw [← V3_keeps m d main_arg4 (by decide) (by decide) (by decide)]
  unfold V4 opsB
  after_results
  rfl
/-- the second's. -/
theorem V4_v7 (d : Dev nD) : V4 m d (dr main_v7) = shapeCast S1x100 (m (d, dr main_arg6) : S100.Idx → EReal) shapeCasts_S100_S1x100 := by
  rw [← V3_keeps m d main_arg6 (by decide) (by decide) (by decide)]
  unfold V4 opsB
  after_results
  rfl

/-! ## The padded table -/

/-- The table, its words' inverse document frequencies beside it, and zeros. -/
def padded (tb : FVec Ideal S100000x100 .f32) (idf : FVec Ideal S100000 .f32) : FVec Ideal S100000x128 .f32 :=
  concatenate S100000x128 1 [⟨S100000x100, tb⟩, ⟨S100000x1, broadcastInDim S100000x1 ![0] bcast_S100000_S100000x1_0 idf⟩,
    ⟨S100000x27, broadcastInDim S100000x27 ![] bcast_S_S100000x27 (constant S_ .f32 0x00000000#32)⟩] concatenates_S100000x100_S100000x1_S100000x27_S100000x128_d1

/-- A row's first hundred columns are the word's vector, -/
theorem padded_row (tb : FVec Ideal S100000x100 .f32) (idf : FVec Ideal S100000 .f32) (v : Fin 100000) (k : Fin 100) :
    padded tb idf (ix2 v ⟨k.val, by omega⟩) = tb (ix2 v k) := by
  unfold padded
  pointwise
/-- and the next is its inverse document frequency. -/
theorem padded_idf (tb : FVec Ideal S100000x100 .f32) (idf : FVec Ideal S100000 .f32) (v : Fin 100000) :
    padded tb idf (ix2 v 100) = idf (ix1 v) := by
  unfold padded
  pointwise

/-- The first host operations make the padded table. -/
theorem V1_v2 (d : Dev nD) : V1 m d (dr main_v2) = padded (m (d, dr main_arg1)) (m (d, dr main_arg2)) := by
  unfold V1 opsA
  after_results
  rfl

/-! ## The result -/

/-- A gathered row: the padded table's row of the document's word. -/
theorem gathered_apply (x : IVec S1024x200 32) (t : FVec Ideal S100000x128 .f32) (b : Fin 1024) (l : Fin 200) (q : Fin 128) :
    gath (F := Ideal) t (shapeCast S204800 x shapeCasts_S1024x200_S204800) (ix2 (rowAt b l) q) = t (ix2 (row x b l) q) := by
  have e : shapeCast S204800 x shapeCasts_S1024x200_S204800 (ix1 (rowAt b l)) = x (ix2 b l) := by
    unfold rowAt
    pointwise
  show t (ix2 (rowOf (shapeCast S204800 x shapeCasts_S1024x200_S204800 (ix1 (rowAt b l)))) q) = _
  rw [e]
  rfl

/-- A count, where the words are rows of the table: words are equal when their rows are. -/
theorem counts_apply (x : IVec S1024x200 32) (hx : ∀ j, (x j).toNat < 100000) (b : Fin 1024) (l : Fin 200) (z : Fin 1) :
    counts x (ix2 (rowAt b l) z) = cnt x b l := by
  have hd : docOf (rowAt b l) = b := Fin.ext (by show (b.val * 200 + l.val) / 200 = b.val; omega)
  have hw : wordOf (rowAt b l) = l := Fin.ext (by show (b.val * 200 + l.val) % 200 = l.val; omega)
  show (∑ l' : Fin 200, if x (ix2 (docOf (rowAt b l)) (wordOf (rowAt b l))) = x (ix2 (docOf (rowAt b l)) l') then (1 : EReal) else 0) = _
  rw [hd, hw]
  unfold cnt
  refine Finset.sum_congr rfl fun l' _ => if_congr ?_ rfl rfl
  have h1 := hx (ix2 b l)
  have h2 := hx (ix2 b l')
  unfold row
  rw [Fin.ext_iff]
  show _ ↔ (x (ix2 b l')).toNat % 100000 = (x (ix2 b l)).toNat % 100000
  rw [Nat.mod_eq_of_lt h1, Nat.mod_eq_of_lt h2]
  exact ⟨fun h => by rw [h], fun h => BitVec.eq_of_toNat_eq h.symm⟩

/-- The second region's result over what the rest of the kernel leaves. -/
theorem layered_apply (x : IVec S1024x200 32) (hx : ∀ j, (x j).toNat < 100000) (tb : FVec Ideal S100000x100 .f32) (idf : FVec Ideal S100000 .f32) (w1 : FVec Ideal S5x100 .f32) (b1 : FVec Ideal S5 .f32)
    (w2 : FVec Ideal S100x5 .f32) (b2 : FVec Ideal S100 .f32) (b : Fin 1024) (k : Fin 100) :
    layered (gath (F := Ideal) (padded tb idf) (shapeCast S204800 x shapeCasts_S1024x200_S204800)) (counts x) w1 (shapeCast S1x5 b1 shapeCasts_S5_S1x5) w2 (shapeCast S1x100 b2 shapeCasts_S100_S1x100) (ix2 b k)
      = out x tb idf w1 b1 w2 b2 b k := by
  unfold layered
  have e5 : ∀ j : Fin 5, shapeCast S1x5 b1 shapeCasts_S5_S1x5 (ix2 0 j) = b1 (ix1 j) := fun j => by pointwise
  have e100 : shapeCast S1x100 b2 shapeCasts_S100_S1x100 (ix2 0 k) = b2 (ix1 k) := by pointwise
  show (∑ j : Fin 5, ((∑ i : Fin 100, (∑ l : Fin 200, gath (F := Ideal) (padded tb idf) (shapeCast S204800 x shapeCasts_S1024x200_S204800) (ix2 (rowAt b l) ⟨i.val, by omega⟩)
      * Ideal.div (counts x (ix2 (rowAt b l) 0) * gath (F := Ideal) (padded tb idf) (shapeCast S204800 x shapeCasts_S1024x200_S204800) (ix2 (rowAt b l) 100))
        (∑ l' : Fin 200, gath (F := Ideal) (padded tb idf) (shapeCast S204800 x shapeCasts_S1024x200_S204800) (ix2 (rowAt b l') 100))) * w1 (ix2 j i))
      + shapeCast S1x5 b1 shapeCasts_S5_S1x5 (ix2 0 j)) * w2 (ix2 k j)) + shapeCast S1x100 b2 shapeCasts_S100_S1x100 (ix2 0 k) = _
  simp only [gathered_apply, counts_apply x hx, padded_row, padded_idf, e5, e100]
  rfl

/-- **The kernel's result.** -/
theorem V5_v8 (hv : InVocab m) (d : Dev nD) (b : Fin 1024) (k : Fin 100) : (V5 m d (dr main_v8) : S1024x100.Idx → EReal) (ix2 b k)
    = out (m (d, dr main_arg0)) (m (d, dr main_arg1)) (m (d, dr main_arg2)) (m (d, dr main_arg3)) (m (d, dr main_arg4)) (m (d, dr main_arg5)) (m (d, dr main_arg6)) b k := by
  have e : V5 m d (dr main_v8) = layered (V4 m d (dr main_v4)) (V4 m d (dr main_v5)) (V4 m d (dr main_arg3)) (V4 m d (dr main_v6)) (V4 m d (dr main_arg5)) (V4 m d (dr main_v7)) :=
    (Pipeline.afterRegion_arr (dat2 (V4 m) d) (V4 m d) winFacts2.arr_inj 6).trans (region2_eq (V4 m) d)
  rw [e, V4_v4, V4_v5, V4_v6, V4_v7, V4_keeps m d main_arg3 (by decide) (by decide) (by decide) (by decide), V4_keeps m d main_arg5 (by decide) (by decide) (by decide) (by decide),
    V1_v2, V1_v3]
  exact layered_apply _ (hv d) _ _ _ _ _ _ b k

/-- **The kernel's result is the reference's**, from memories that agree on the arguments. -/
theorem value_eq (hv : InVocab m) (m' : (ℓ : Loc Cert.ReferenceIdeal.nD Cert.ReferenceIdeal.τ Cert.ReferenceIdeal.sig) → Buf (Elt Ideal) ℓ)
    (hargs : ∀ c : Dev nD, m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)) (c : Dev nD) :
    Cert.ReferenceIdeal.Value.res_main_v41 m' c = V5 m c (dr main_v8) := by
  obtain ⟨h0, h1, h2, h3, h4, h5, h6⟩ := hargs c
  have hx : ∀ j, ((m ((c.tc : Thread nD τ).loc main_arg0) : S1024x200.Idx → BitVec 32) j).toNat < 100000 := hv c
  rw [Cert.ReferenceIdeal.Own.result_eq, h0, h1, h2, h3, h4, h5, h6]
  funext j
  obtain ⟨b, k, rfl⟩ : ∃ (b : Fin 1024) (k : Fin 100), j = ix2 b k := ⟨j 0, j 1, by funext a; match a with | ⟨0, _⟩ => rfl | ⟨1, _⟩ => rfl⟩
  exact (Cert.ReferenceIdeal.Own.outs_apply _ hx _ _ _ _ _ _ b k).trans (V5_v8 m hv c b k).symm

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.IEnd
public import proofs.«01_k».proof.Proof.KEnd
public import proofs.«01_k».proof.Proof.Value
public import Idealize.ShloMosaic.Adequacy
public import Idealize.ShloMosaic.Init

@[expose] public section

noncomputable section

namespace Cert.Proof

open Idealize.ShloMosaic Idealize.SL.Sem Cert.Kernel

instance : Cert.Kernel.Facts := Cert.Kernel.Gen.facts
instance : Cert.KernelIdeal.Facts := Cert.KernelIdeal.Gen.facts
instance : Cert.ReferenceIdeal.Facts := Cert.ReferenceIdeal.Gen.facts
instance : Cert.Pre_in_vocab.Facts := Cert.Pre_in_vocab.Gen.facts

/-- The kernel as printed runs, keeps its arguments and ends with its counters at zero. -/
theorem frame_kernel : Cert.quiescent_Kernel := fun m g hpre =>
  (θ_run Cert.Kernel.defs _ _).mono (fun _ h => ⟨fun c => (h.1 c).2, h.2⟩)
    (Cert.Kernel.Own.run_ends (F := Bits) m g (Cert.Kernel.Own.in_vocab_of_pre m hpre))

/-- So does the kernel read at the ideal instance. -/
theorem frame_ideal : Cert.quiescent_KernelIdeal := fun m g hpre =>
  (θ_run Cert.KernelIdeal.defs _ _).mono (fun _ h => ⟨fun c => (h.1 c).2, h.2⟩)
    (Cert.KernelIdeal.Own.run_ends (F := Ideal) m g (Cert.KernelIdeal.Own.in_vocab_of_pre m hpre))

/-- The reference runs from any memory; it has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- In particular from one the precondition holds of. -/
theorem frame_reference_pre : Cert.quiescent_ReferenceIdeal_pre_in_vocab := fun m g _ => frame_reference m g trivial

/-- Over the extended reals the kernel's result is the reference's (Proof/Value.lean). -/
theorem same_values : Cert.algebraic_KernelIdeal_ReferenceIdeal := by
  intro m g m' g' hpre hargs
  have hv := Cert.KernelIdeal.Own.in_vocab_of_pre m hpre
  refine ⟨fun c => Cert.KernelIdeal.Own.V5 m c (Cert.KernelIdeal.Own.dr Cert.KernelIdeal.main_v8), ?_, ?_⟩
  · exact (θ_run Cert.KernelIdeal.defs _ _).mono (fun _ h => h.1) (Cert.KernelIdeal.Own.run_ends (F := Ideal) m g hv)
  · exact (θ_run Cert.ReferenceIdeal.defs _ _).mono (fun _ h c => ⟨(h c).1.trans (Cert.KernelIdeal.Own.value_eq m hv m' hargs c), (h c).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_in_vocab.Gen.facts,
  frame_kernel, frame_ideal, frame_reference, frame_reference_pre, trivial, same_values⟩

end Cert.Proof

end
